-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v1_3)) (v3 : (c : Dev Cert.KernelIdeal.nD) → Buf (Elt Ideal) ((c.tc : Thread Cert.KernelIdeal.nD Cert.KernelIdeal.τ).loc Cert.KernelIdeal.main_v1_4)) (v4 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_2) = v1 c
          ∧ r.2.mem ((c.tc : Thread Cert.KernelIdeal.nD Cert.KernelIdeal.τ).loc Cert.KernelIdeal.main_v1_3) = v2 c
          ∧ r.2.mem ((c.tc : Thread Cert.KernelIdeal.nD Cert.KernelIdeal.τ).loc Cert.KernelIdeal.main_v1_4) = v3 c
          ∧ r.2.mem ((c.tc : Thread Cert.KernelIdeal.nD Cert.KernelIdeal.τ).loc Cert.KernelIdeal.main_v1_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x32x64x64 : Shape := ⟨4, ![8, 32, 64, 64]⟩
abbrev S1024x32 : Shape := ⟨2, ![1024, 32]⟩
abbrev S_ : Shape := ⟨0, ![]⟩

class Facts : Prop where
  bcast_S_S8x32x64x64 : S_.BroadcastsInDim S8x32x64x64 (![] : Fin 0 → Fin S8x32x64x64.rank)
  bcast_S_S1024x32 : S_.BroadcastsInDim S1024x32 (![] : Fin 0 → Fin S1024x32.rank)

variable [Facts]

def fn {F : FTy → Type} [FloatOps F] (main_arg0 : FVec F S8x32x64x64 .f32) (main_arg1 : FVec F S1024x32 .f32) : IVec S8x32x64x64 1 × IVec S1024x32 1 :=
  let main_v0 : FVec F S8x32x64x64 .f32 := Host.absf main_arg0
  let main_cst : FVec F S_ .f32 := constant S_ .f32 0x7F800000#32
  let main_v1 : FVec F S8x32x64x64 .f32 := broadcastInDim S8x32x64x64 ![] bcast_S_S8x32x64x64 main_cst
  let main_v2 : IVec S8x32x64x64 1 := cmpf .olt main_v0 main_v1
  let main_v3 : FVec F S1024x32 .f32 := Host.absf main_arg1
  let main_cst_0 : FVec F S_ .f32 := constant S_ .f32 0x7F800000#32
  let main_v4 : FVec F S1024x32 .f32 := broadcastInDim S1024x32 ![] bcast_S_S1024x32 main_cst_0
  let main_v5 : IVec S1024x32 1 := cmpf .olt main_v3 main_v4
  (main_v2, main_v5)
-- ==== Kernel.lean ====
abbrev S8x32x64x64 : Shape := ⟨4, ![8, 32, 64, 64]⟩
abbrev S1024x32 : Shape := ⟨2, ![1024, 32]⟩
abbrev S8x32x4096 : Shape := ⟨3, ![8, 32, 4096]⟩
abbrev S8x1x4096 : Shape := ⟨3, ![8, 1, 4096]⟩
abbrev S1x1 : Shape := ⟨2, ![1, 1]⟩
abbrev S1x32x4096 : Shape := ⟨3, ![1, 32, 4096]⟩
abbrev S1x1x4096 : Shape := ⟨3, ![1, 1, 4096]⟩
abbrev S1024x4096 : Shape := ⟨2, ![1024, 4096]⟩
abbrev S32x4096 : Shape := ⟨2, ![32, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S8x1 : Shape := ⟨2, ![8, 1]⟩
abbrev S8x4096 : Shape := ⟨2, ![8, 4096]⟩
abbrev S16x1 : Shape := ⟨2, ![16, 1]⟩
abbrev S16x4096 : Shape := ⟨2, ![16, 4096]⟩
abbrev S1 : Shape := ⟨1, ![1]⟩
abbrev S1x1x1 : Shape := ⟨3, ![1, 1, 1]⟩

abbrev nBuf : Space → Nat
  | .hbm => 8
  | .vmem => 9
  | .smem => 4
  | _ => 0

abbrev bufTy : (tb : Table) → Fin (tcTables nBuf tb) → BufTy
  | .hbm, ⟨0, _⟩ => ⟨S8x32x64x64, .f32⟩
  | .hbm, ⟨1, _⟩ => ⟨S1024x32, .f32⟩
  | .hbm, ⟨2, _⟩ => ⟨S8x32x4096, .f32⟩
  | .hbm, ⟨3, _⟩ => ⟨S8x32x4096, .f32⟩
  | .hbm, ⟨4, _⟩ => ⟨S8x1x4096, .i32⟩
  | .hbm, ⟨5, _⟩ => ⟨S1x1, .f32⟩
  | .hbm, ⟨6, _⟩ => ⟨S1x1, .f32⟩
  | .hbm, ⟨7, _⟩ => ⟨S1x1, .f32⟩
  | .local _ .vmem, ⟨0, _⟩ => ⟨S1x32x4096, .f32⟩
  | .local _ .vmem, ⟨1, _⟩ => ⟨S1x32x4096, .f32⟩
  | .local _ .vmem, ⟨2, _⟩ => ⟨S1024x32, .f32⟩
  | .local _ .vmem, ⟨3, _⟩ => ⟨S1x32x4096, .f32⟩
  | .local _ .vmem, ⟨4, _⟩ => ⟨S1x32x4096, .f32⟩
  | .local _ .vmem, ⟨5, _⟩ => ⟨S1x1x4096, .i32⟩
  | .local _ .vmem, ⟨6, _⟩ => ⟨S1x1x4096, .i32⟩
  | .local _ .vmem, ⟨7, _⟩ => ⟨S1024x4096, .f32⟩
  | .local _ .vmem, ⟨8, _⟩ => ⟨S1024x4096, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S8x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg4_0 : Ref sig .tc := ⟨.smem, 0, rfl⟩
abbrev cc0_stg5_0 : Ref sig .tc := ⟨.smem, 1, rfl⟩
abbrev cc0_stg6_0 : Ref sig .tc := ⟨.smem, 2, rfl⟩
abbrev cc0_scratch2 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg0 : BitVec 32 := BitVec.ofNat 32 (i 0).val
  let c7_i32 : BitVec 32 := 7#32
  let v2099 : BitVec 1 := Scalar.cmpi .eq arg0 c7_i32
  let arg1 : BitVec 32 := BitVec.ofNat 32 (i 1).val
  let c0_i32_606 : BitVec 32 := 0#32
  let v2100 : BitVec 1 := Scalar.cmpi .eq arg1 c0_i32_606
  let v2101 : BitVec 1 := Scalar.andi v2099 v2100
  let v2102 : BitVec 32 := Scalar.extui v2101
  let c0_i32_607 : BitVec 32 := 0#32
  let v2103 : BitVec 1 := Scalar.cmpi .ne v2102 c0_i32_607
  v2103

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S8x32x64x64 : Shape := ⟨4, ![8, 32, 64, 64]⟩
abbrev S1024x32 : Shape := ⟨2, ![1024, 32]⟩
abbrev S8x64x64x32 : Shape := ⟨4, ![8, 64, 64, 32]⟩
abbrev S32768x32 : Shape := ⟨2, ![32768, 32]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S32x1024 : Shape := ⟨2, ![32, 1024]⟩
abbrev S1 : Shape := ⟨1, ![1]⟩
abbrev S1x1 : Shape := ⟨2, ![1, 1]⟩
abbrev S8x32x4096 : Shape := ⟨3, ![8, 32, 4096]⟩
abbrev S8x1x4096 : Shape := ⟨3, ![8, 1, 4096]⟩

abbrev nBuf : Space → Nat
  | .hbm => 73
  | .vmem => 0
  | .smem => 0
  | _ => 0

abbrev bufTy : (tb : Table) → Fin (tcTables nBuf tb) → BufTy
  | .hbm, ⟨0, _⟩ => ⟨S8x32x64x64, .f32⟩
  | .hbm, ⟨1, _⟩ => ⟨S1024x32, .f32⟩
  | .hbm, ⟨2, _⟩ => ⟨S8x64x64x32, .f32⟩
  | .hbm, ⟨3, _⟩ => ⟨S32768x32, .f32⟩
  | .hbm, ⟨4, _⟩ => ⟨S32768x32, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x32, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S1, .i32⟩
  | .hbm, ⟨35, _⟩ => ⟨S_, .i32⟩
  | .hbm, ⟨36, _⟩ => ⟨S32768x1, .i32⟩
  | .hbm, ⟨37, _⟩ => ⟨S32768x1, .i1⟩
  | .hbm, ⟨38, _⟩ => ⟨S1x1, .i32⟩
  | .hbm, ⟨39, _⟩ => ⟨S32768x1, .i32⟩
  | .hbm, ⟨40, _⟩ => ⟨S32768x1, .i1⟩
  | .hbm, ⟨41, _⟩ => ⟨S32768x1, .i1⟩
  | .hbm, ⟨42, _⟩ => ⟨S_, .i1⟩
  | .hbm, ⟨43, _⟩ => ⟨S32768, .i1⟩
  | .hbm, ⟨44, _⟩ => ⟨S32768x32, .f32⟩
  | .hbm, ⟨45, _⟩ => ⟨S32768x32, .i1⟩
  | .hbm, ⟨46, _⟩ => ⟨S_, .f32⟩
  | .hbm, ⟨47, _⟩ => ⟨S32768x32, .f32⟩
  | .hbm, ⟨48, _⟩ => ⟨S32768x32, .f32⟩
  | .hbm, ⟨49, _⟩ => ⟨S8x64x64x32, .f32⟩
  | .hbm, ⟨50, _⟩ => ⟨S8x64x64x32, .f32⟩
  | .hbm, ⟨51, _⟩ => ⟨S8x64x64x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x64x64x32, .f32⟩
  | .hbm, ⟨59, _⟩ => ⟨S8x64x64x32, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x64x64x32, .f32⟩
  | .hbm, ⟨66, _⟩ => ⟨S8x64x64x32, .f32⟩
  | .hbm, ⟨67, _⟩ => ⟨S8x32x64x64, .f32⟩
  | .hbm, ⟨68, _⟩ => ⟨S8x32x4096, .f32⟩
  | .hbm, ⟨69, _⟩ => ⟨S1x1, .f32⟩
  | .hbm, ⟨70, _⟩ => ⟨S1x1, .f32⟩
  | .hbm, ⟨71, _⟩ => ⟨S1x1, .f32⟩
  | .hbm, ⟨72, _⟩ => ⟨S8x1x4096, .i32⟩
  | _, _ => ⟨S8x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩

abbrev nD : Nat := 1
abbrev τ : Topo := Topo.v7x

variable {F : FTy → Type} [FloatOps F]
-- ==== Proof.Chain.lean ====
/- The running minimum of the kernel: 128 slices of eight rows are compared one after the other, each row of a slice
   keeping the least value met so far and the number of the slice it came from. The step of that chain is proved once,
   for any slice; the chain's end gives the first position of the least value among all 1024 rows. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace VQ

open Idealize.ShloMosaic Idealize.ShloMosaic.TcCoe Idealize.SL.Sem
open Cert.KernelIdeal Cert.KernelIdeal.Gen

/-! ## First positions of a least value -/

/-- `k` is the first position at which `g` takes its least value. -/
def IsFirst {n : ℕ} (g : Fin n → EReal) (k : Fin n) : Prop :=
  (∀ j, g k ≤ g j) ∧ ∀ j, j < k → g k < g j

/-- A nonempty finite family has a first least position. -/
theorem exists_isFirst {n : ℕ} (hn : 0 < n) (g : Fin n → EReal) : ∃ k, IsFirst g k := by
  classical
  haveI : Nonempty (Fin n) := ⟨⟨0, hn⟩⟩
  obtain ⟨a, ha⟩ := Finite.exists_min g
  have hne : (Finset.univ.filter fun k => g k = g a).Nonempty := ⟨a, by simp⟩
  refine ⟨(Finset.univ.filter fun k => g k = g a).min' hne, ?_, ?_⟩
  · intro j
    have := Finset.min'_mem _ hne
    rw [Finset.mem_filter] at this
    rw [this.2]; exact ha j
  · intro j hj
    have := Finset.min'_mem _ hne
    rw [Finset.mem_filter] at this
    rw [this.2]
    refine lt_of_le_of_ne (ha j) fun h => ?_
    exact absurd (Finset.min'_le _ j (by simp [h])) (not_le.2 hj)

/-- There is only one first least position. -/
theorem IsFirst.unique {n : ℕ} {g : Fin n → EReal} {k l : Fin n} (hk : IsFirst g k) (hl : IsFirst g l) : k = l := by
  rcases lt_trichotomy k l with h | h | h
  · exact absurd (hl.2 k h) (not_lt.2 (hk.1 l))
  · exact h
  · exact absurd (hk.2 l h) (not_lt.2 (hl.1 k))

/-! ## Whole numbers as float words -/

/-- A positive normal float word with exponent between 0 and 23 is the whole number its significand gives. -/
theorem lit (w : BitVec 32) (n : ℕ) (h : (w.extractLsb' 31 1 == 1#1) = false ∧ 127 ≤ (w.extractLsb' 23 8).toNat
    ∧ (w.extractLsb' 23 8).toNat ≤ 150
    ∧ 2 ^ 23 + (w.extractLsb' 0 23).toNat = n * 2 ^ (150 - (w.extractLsb' 23 8).toNat)) :
    Ideal.ofBits .f32 w = ((n : ℝ) : EReal) := by
  obtain ⟨h0, h1, h2, h3⟩ := h
  simp only [Ideal.ofBits, Ideal.ieee]
  rw [show (8 + 23 : ℕ) = 31 from rfl, h0]
  generalize (w.extractLsb' 23 8).toNat = e at *
  generalize (w.extractLsb' 0 23).toNat = f at *
  rw [if_neg (by omega), if_neg (by omega)]
  obtain ⟨d, hd⟩ : ∃ d, e + d = 150 := ⟨150 - e, Nat.add_sub_cancel' h2⟩
  rw [show 150 - e = d by omega] at h3
  rw [show ((e : ℤ) - (2 ^ (8 - 1) - 1) - ((23 : ℕ) : ℤ)) = -(d : ℤ) by
    have : (e : ℤ) + d = 150 := by exact_mod_cast hd
    norm_num; omega]
  rw [h3, zpow_neg, zpow_natCast]
  congr 1
  push_cast
  simp

/-! ## The chain -/

/-- Row `r` of slice `i`. -/
def row (i : Fin 128) (r : Fin 8) : Fin 1024 := ⟨8 * i.1 + r.1, by omega⟩

/-- `D` is slice `n` of `f`. -/
def IsSlice (f : Fin 1024 → Fin 4096 → EReal) (n : Fin 128) (D : FVec Ideal S8x4096 .f32) : Prop :=
  ∀ (r : Fin 8) (s : Fin 4096), D (ix2 r s) = f (row n r) s

/-- After `N` slices: `B` is the least value of each row of a slice, `S` the first slice it was met in. -/
def Holds (f : Fin 1024 → Fin 4096 → EReal) (N : ℕ) (B S : FVec Ideal S8x4096 .f32) : Prop :=
  ∀ (r : Fin 8) (s : Fin 4096), ∃ i : Fin 128, i.1 < N ∧ B (ix2 r s) = f (row i r) s
    ∧ S (ix2 r s) = (((i.1 : ℕ) : ℝ) : EReal) ∧ (∀ j : Fin 128, j.1 < N → f (row i r) s ≤ f (row j r) s)
    ∧ ∀ j : Fin 128, j < i → f (row i r) s < f (row j r) s

/-- The chain starts with the first slice and the number 0. -/
theorem Holds.base {f : Fin 1024 → Fin 4096 → EReal} {D : FVec Ideal S8x4096 .f32} (hD : IsSlice f 0 D) :
    Holds f 1 D (broadcast S8x4096 (Scalar.ofBits (F := Ideal) .f32 0x00000000#32)) := by
  intro r s
  refine ⟨0, by decide, hD r s, ?_, ?_, ?_⟩
  · pointwise
    try simp
  · intro j hj
    rw [show j = 0 from Fin.ext (by simpa using hj)]
  · intro j hj
    exact absurd hj (by simp)

/-- One step of the chain: the next slice replaces what it is less than. -/
theorem Holds.step {f : Fin 1024 → Fin 4096 → EReal} {n : ℕ} {D B S : FVec Ideal S8x4096 .f32} {w : BitVec 32}
    (hn : n < 128) (hw : Ideal.ofBits .f32 w = ((n : ℝ) : EReal)) (hD : IsSlice f ⟨n, hn⟩ D) (hB : Holds f n B S) :
    Holds f (n + 1) (select (cmpf .olt D B) D B)
      (select (cmpf .olt D B) (broadcast S8x4096 (Scalar.ofBits (F := Ideal) .f32 w)) S) := by
  intro r s
  obtain ⟨i, hi, hb, hs, hle, hlt⟩ := hB r s
  have hd := hD r s
  have e1 : select (cmpf .olt D B) D B (ix2 r s) = if D (ix2 r s) < B (ix2 r s) then D (ix2 r s) else B (ix2 r s) := by
    pointwise
  have e2 : select (cmpf .olt D B) (broadcast S8x4096 (Scalar.ofBits (F := Ideal) .f32 w)) S (ix2 r s)
      = if D (ix2 r s) < B (ix2 r s) then Ideal.ofBits .f32 w else S (ix2 r s) := by
    pointwise
  rw [e1, e2, hd, hb, hs, hw]
  by_cases h : f (row ⟨n, hn⟩ r) s < f (row i r) s
  · refine ⟨⟨n, hn⟩, by simp, if_pos h, if_pos h, ?_, ?_⟩
    · intro j hj
      rcases Nat.lt_succ_iff_lt_or_eq.1 hj with hj | hj
      · exact h.le.trans (hle j hj)
      · rw [show j = ⟨n, hn⟩ from Fin.ext hj]
    · intro j hj
      exact h.trans_le (hle j hj)
  · refine ⟨i, by omega, if_neg h, if_neg h, ?_, hlt⟩
    intro j hj
    rcases Nat.lt_succ_iff_lt_or_eq.1 hj with hj | hj
    · exact hle j hj
    · rw [show j = ⟨n, hn⟩ from Fin.ext hj]
      exact not_lt.1 h

/-- The distances the kernel compares: `v14` the squared lengths of the tokens, `v11` those of the codebook rows, `X` the
    products. -/
def dist (v11 : FVec Ideal S1024x1 .f32) (v14 : FVec Ideal S1x4096 .f32) (X : FVec Ideal S1024x4096 .f32)
    (k : Fin 1024) (s : Fin 4096) : EReal :=
  (v14 (ix2 0 s) + v11 (ix2 k 0)) + X (ix2 k s)

/-- Eight rows of the sums, read from the stored products, are a slice of the distances. -/
theorem slice {v11 : FVec Ideal S1024x1 .f32} {v14 : FVec Ideal S1x4096 .f32} {X : FVec Ideal S1024x4096 .f32}
    {n : Fin 128} {o : ℕ} (ho : o = 8 * n.1) {v : View sig .tc .vmem S1024x4096 .f32}
    {hs : S1024x1.Slices ![o, 0] S8x1} {hb : S1x4096.Broadcasts S8x4096} {hb' : S8x1.Broadcasts S8x4096}
    {i0 : ∀ a, (![0, 0] : Fin 2 → ℕ) a + S1024x4096.size a ≤ S1024x4096.size a}
    {i1 : ∀ a, (![o, 0] : Fin 2 → ℕ) a + S8x4096.size a ≤ S1024x4096.size a} :
    IsSlice (dist v11 v14 X) n
      (addf (addf (broadcastTo S8x4096 v14 hb) (broadcastTo S8x4096 (extractStridedSlice S8x1 ![o, 0] v11 hs) hb'))
        (v.readCov (Val := Elt Ideal) [⟨Rect.unit (s := S1024x4096) ![0, 0] S1024x4096.size i0, X⟩]
          (Rect.unit (s := S1024x4096) ![o, 0] S8x4096.size i1).toLoadRect)) := by
  subst ho
  intro r s
  rw [View.readCov_eq_canon', View.canon_cons_unit_lit' _ _ _ (by intro a; fin_cases a <;> rfl)]
  pointwise
  rfl

/-- Infinity, the start of a minimum. -/
theorem word_top : Ideal.ofBits .f32 0x7F800000#32 = ⊤ := by
  simp [Ideal.ofBits, Ideal.ieee]

/-- A small row number converted to a float. -/
theorem sitofp_small (k : ℕ) (hk : k < 2048) :
    (FloatOps.sitofp .f32 (BitVec.ofNat 32 k) : Ideal .f32) = (((k : ℕ) : ℝ) : EReal) := by
  show (((BitVec.ofNat 32 k).toInt : ℝ) : EReal) = _
  rw [BitVec.toInt_eq_toNat_of_lt (by rw [BitVec.toNat_ofNat]; omega), BitVec.toNat_ofNat,
    Nat.mod_eq_of_lt (by omega)]
  simp

/-- The end of the chain: with all 128 slices compared, the minimum over the eight rows is the least distance, and the
    minimum of the row numbers at which it is met is the first of its positions. -/
theorem Holds.first {f : Fin 1024 → Fin 4096 → EReal} {v11 : FVec Ideal S1024x1 .f32} {v14 : FVec Ideal S1x4096 .f32}
    {b p x : FVec Ideal S8x4096 .f32}
    (h : Holds f 128 (k0_pay435 v11 v14 b x)
      (select (k0_pay434 v11 v14 b x) (broadcast S8x4096 (Scalar.ofBits (F := Ideal) .f32 0x42FE0000#32)) p))
    (s : Fin 4096) :
    ∃ k : Fin 1024, IsFirst (fun k => f k s) k ∧ k0_pay436 v11 v14 b x (ix2 0 s) = f k s
      ∧ k0_pay437 v11 v14 k0_pay9 b p x (ix2 0 s) = ((k.1 : ℝ) : EReal) := by
  obtain ⟨k, hk⟩ := exists_isFirst (by decide) fun k => f k s
  choose i _ hb hs hle hlt using fun r => h r s
  have hle' : ∀ r j, f (row (i r) r) s ≤ f (row j r) s := fun r j => hle r j j.2
  -- the row of `k`
  obtain ⟨i0, r0, hk0⟩ : ∃ i0 r0, k = row i0 r0 :=
    ⟨⟨k.1 / 8, by omega⟩, ⟨k.1 % 8, by omega⟩, Fin.ext (by simp only [row]; omega)⟩
  have hi0 : i r0 = i0 := by
    rcases lt_trichotomy (i r0) i0 with hl | he | hl
    · refine absurd (hk.2 (row (i r0) r0) ?_) (not_lt.2 ?_)
      · rw [hk0, Fin.lt_def]; simp only [row]; have := Fin.lt_def.1 hl; omega
      · rw [hk0]; exact hle' r0 i0
    · exact he
    · refine absurd (hlt r0 i0 hl) (not_lt.2 ?_)
      rw [← hk0]; exact hk.1 _
  have hmin : Finset.fold min (⊤ : EReal) (fun r => k0_pay435 v11 v14 b x (ix2 r s)) Finset.univ = f k s := by
    apply le_antisymm
    · rw [Finset.fold_min_le]
      right
      exact ⟨r0, Finset.mem_univ _, by rw [hb, hi0, ← hk0]⟩
    · rw [Finset.le_fold_min]
      exact ⟨le_top, fun r _ => by rw [hb]; exact hk.1 _⟩
  refine ⟨k, hk, ?_, ?_⟩
  · rw [← hmin, ← word_top]
    unfold k0_pay436
    pointwise
  · have e : k0_pay437 v11 v14 k0_pay9 b p x (ix2 0 s)
        = Finset.fold min (⊤ : EReal) (fun r : Fin 8 => if k0_pay435 v11 v14 b x (ix2 r s) = f k s then
            (select (k0_pay434 v11 v14 b x) (broadcast S8x4096 (Scalar.ofBits (F := Ideal) .f32 0x42FE0000#32)) p) (ix2 r s)
              * Ideal.ofBits .f32 0x41000000#32 + (((r.1 : ℕ) : ℝ) : EReal)
            else Ideal.ofBits .f32 0x45000000#32) Finset.univ := by
      rw [← hmin, ← word_top]
      unfold k0_pay437 k0_pay436
      pointwise [k0_pay9]
      refine congrArg (fun g => Finset.fold min _ g Finset.univ) (funext fun r => ?_)
      rw [sitofp_small r.1 (by omega)]
    have e8 : ∀ r : Fin 8, (((i r).1 : ℕ) : ℝ) * ((8 : ℕ) : ℝ) + ((r.1 : ℕ) : ℝ) = ((row (i r) r).1 : ℝ) := fun r => by
      simp only [row]; push_cast; ring
    rw [e]
    simp only [hb, hs, lit 0x41000000#32 8 (by decide), lit 0x45000000#32 2048 (by decide), ← EReal.coe_mul,
      ← EReal.coe_add, e8]
    apply le_antisymm
    · rw [Finset.fold_min_le]
      right
      refine ⟨r0, Finset.mem_univ _, ?_⟩
      rw [hi0, ← hk0, if_pos rfl]
    · rw [Finset.le_fold_min]
      refine ⟨le_top, fun r _ => ?_⟩
      split_ifs with he
      · rw [EReal.coe_le_coe_iff, Nat.cast_le]
        by_contra hc
        exact absurd (hk.2 (row (i r) r) (by rw [Fin.lt_def]; omega)) (not_lt.2 he.le)
      · rw [EReal.coe_le_coe_iff, Nat.cast_le]
        omega

end VQ
-- ==== Proof.OneHot.lean ====
/- The one-hot matrix of the kernel: 64 bands of sixteen rows are stored one after the other; in each band the entry is one
   where the row's number is the position found for the column. The step is proved once, for any band. -/
module

public import proofs.«01_k».proof.Proof.Chain

@[expose] public section

set_option maxRecDepth 16384

noncomputable section

namespace VQ

open Idealize.ShloMosaic Idealize.ShloMosaic.TcCoe Idealize.SL.Sem
open Cert.KernelIdeal Cert.KernelIdeal.Gen

/-- `P` is band `n` of the matrix with a one at row `g s` of column `s`. -/
def IsBand (g : Fin 4096 → Fin 1024) (n : ℕ) (P : FVec Ideal S16x4096 .bf16) : Prop :=
  ∀ (r : Fin 16) (s : Fin 4096), P (ix2 r s) = if 16 * n + r.1 = (g s).1 then 1 else 0

/-- The first `N` bands are stored. -/
def Bands (g : Fin 4096 → Fin 1024) (N : ℕ) (L : List (View.Piece (Elt Ideal) S1024x4096 .bf16)) : Prop :=
  ∀ (k : Fin 1024) (s : Fin 4096), k.1 < 16 * N → View.canon L (ix2 k s) = if k.1 = (g s).1 then (1 : EReal) else 0

/-- Before the first store nothing is claimed. -/
theorem Bands.nil {g : Fin 4096 → Fin 1024} {L : List (View.Piece (Elt Ideal) S1024x4096 .bf16)} : Bands g 0 L :=
  fun k s h => absurd h (by omega)

/-- One more band. -/
theorem Bands.cons {g : Fin 4096 → Fin 1024} {n o : ℕ} {L : List (View.Piece (Elt Ideal) S1024x4096 .bf16)}
    {P : FVec Ideal S16x4096 .bf16} {i1 : ∀ a, (![o, 0] : Fin 2 → ℕ) a + S16x4096.size a ≤ S1024x4096.size a}
    (ho : o = 16 * n) (hP : IsBand g n P) (hL : Bands g n L) :
    Bands g (n + 1) (⟨Rect.unit (s := S1024x4096) ![o, 0] S16x4096.size i1, P⟩ :: L) := by
  subst ho
  intro k s hk
  by_cases h : k.1 < 16 * n
  · rw [View.canon_cons_of_not_mem, hL k s h]
    intro hm
    have hm' := ((Rect.mem_set_unit (inb := i1)).1 hm 0).1
    have : 16 * n ≤ k.1 := hm'
    omega
  · have e : (ix2 k s : S1024x4096.Idx) = (Rect.unit (s := S1024x4096) ![16 * n, 0] S16x4096.size i1).emb
        (ix2 (⟨k.1 - 16 * n, by omega⟩ : Fin 16) s) := by
      funext a
      fin_cases a
      · exact Fin.ext (show k.1 = 16 * n + 1 * (k.1 - 16 * n) by omega)
      · exact Fin.ext (show s.1 = 0 + 1 * s.1 by omega)
    rw [e, View.canon_cons_emb, hP]
    have : 16 * n + (k.1 - 16 * n) = k.1 := by omega
    simp only [this]

/-- A band as the kernel computes it: row numbers compared with the positions `I`. -/
theorem band {g : Fin 4096 → Fin 1024} {I : FVec Ideal S1x4096 .f32} {n : ℕ} {w : BitVec 32}
    {h1 : S16x1.Broadcasts S16x4096} {h2 : S1x4096.Broadcasts S16x4096} {h3 : FTy.bf16.bits < FTy.f32.bits}
    {h4 : S16x4096.ShapeCasts S16x4096}
    (hI : ∀ s, I (ix2 0 s) = (((g s).1 : ℝ) : EReal)) (hn : n < 64)
    (hw : Ideal.ofBits .f32 w = (((16 * n : ℕ) : ℝ) : EReal)) :
    IsBand g n (shapeCast S16x4096 (truncf .bf16
      (select (cmpf .oeq (broadcastTo S16x4096 (addf k0_pay438 (broadcast S16x1 (Scalar.ofBits (F := Ideal) .f32 w))) h1)
          (broadcastTo S16x4096 I h2))
        (broadcast S16x4096 (Scalar.ofBits (F := Ideal) .f32 0x3F800000#32))
        (broadcast S16x4096 (Scalar.ofBits (F := Ideal) .f32 0x00000000#32))) h3) h4) := by
  intro r s
  pointwise [k0_pay438]
  rw [hI, hw, sitofp_small r.1 (by omega), ← EReal.coe_add, ← Nat.cast_add]
  simp only [EReal.coe_eq_coe_iff, Nat.cast_inj, add_comm r.1]

end VQ
-- ==== Proof.Block.lean ====
/- What one block of the kernel computes: the looked-up rows, their positions and the sum of the least distances, for each
   of the three kinds of grid point (the first, the middle ones, the last). -/
module

public import proofs.«01_k».proof.Proof.OneHot

@[expose] public section

set_option maxRecDepth 16384

noncomputable section

namespace VQ

open Idealize.ShloMosaic Idealize.ShloMosaic.TcCoe Idealize.SL.Sem
open Cert.KernelIdeal Cert.KernelIdeal.Gen

/-! ## The block's values -/

/-- The distance of column `s` of a token block from codebook row `k`. -/
def dst (x0 : Vec Ideal S1x32x4096 .f32) (x1 : Vec Ideal S1024x32 .f32) (k : Fin 1024) (s : Fin 4096) : EReal :=
  dist (k0_pay7 x1) (k0_pay8 x0) (k0_pay6 x0 x1) k s

/-- The first nearest codebook row of column `s`. -/
def pos (x0 : Vec Ideal S1x32x4096 .f32) (x1 : Vec Ideal S1024x32 .f32) (s : Fin 4096) : Fin 1024 :=
  (exists_isFirst (by decide) fun k => dst x0 x1 k s).choose

/-- It is nearest, and no earlier row is as near. -/
theorem pos_isFirst (x0 : Vec Ideal S1x32x4096 .f32) (x1 : Vec Ideal S1024x32 .f32) (s : Fin 4096) :
    IsFirst (fun k => dst x0 x1 k s) (pos x0 x1 s) :=
  (exists_isFirst (by decide) fun k => dst x0 x1 k s).choose_spec

/-- The nearest rows, one per column. -/
def near (x0 : Vec Ideal S1x32x4096 .f32) (x1 : Vec Ideal S1024x32 .f32) : Vec Ideal S1x32x4096 .f32 :=
  fun j => x1 (ix2 (pos x0 x1 (j 2)) (j 1))

/-- The positions of the nearest rows, as words. -/
def numbers (x0 : Vec Ideal S1x32x4096 .f32) (x1 : Vec Ideal S1024x32 .f32) : Vec Ideal S1x1x4096 .i32 :=
  fun j => BitVec.ofNat 32 (pos x0 x1 (j 2)).1

/-- The sum of the least distances. -/
def part (x0 : Vec Ideal S1x32x4096 .f32) (x1 : Vec Ideal S1024x32 .f32) : EReal :=
  ∑ s : Fin 4096, dst x0 x1 (pos x0 x1 s) s

/-! ## The steps common to all points -/

/-- A load of the whole token block gives the block. -/
theorem load2 {arg2 : Memref sig .tc .vmem S1x32x4096 .f32} (harg2 : arg2.IsWhole) (x0 : Vec Ideal S1x32x4096 .f32) :
    View.readAt (Elt Ideal) arg2.view (Rect.unit ![0, 0, 0] S1x32x4096.size inb_S1x32x4096_S1x32x4096_0_0_0).toLoadRect
      (harg2.unread x0) = x0 := by
  rw [View.readAt_eq_ld, Memref.IsWhole.read_unread,
    View.ld_unit_lit' _ _ (by intro a; fin_cases a <;> rfl)]

/-- A load of the whole codebook gives the codebook. -/
theorem load3 {arg3 : Memref sig .tc .vmem S1024x32 .f32} (harg3 : arg3.IsWhole) (x1 : Vec Ideal S1024x32 .f32) :
    View.readAt (Elt Ideal) arg3.view (Rect.unit ![0, 0] S1024x32.size inb_S1024x32_S1024x32_0_0).toLoadRect
      (harg3.unread x1) = x1 := by
  rw [View.readAt_eq_ld, Memref.IsWhole.read_unread,
    View.ld_unit_lit' _ _ (by intro a; fin_cases a <;> rfl)]

/-- A load of the one-cell running sum gives its content. -/
theorem load11 {arg11 : Memref sig .tc .smem S1x1 .f32} (harg11 : arg11.IsWhole) (x : Vec Ideal S1x1 .f32)
    {h : 0 < (Rect.unit (s := S1x1) ![0, 0] ![1, 1] inb_S1x1_S1x1_0_0).toLoadRect.shape.numel} :
    View.readAt (Elt Ideal) arg11.view (Rect.unit ![0, 0] ![1, 1] inb_S1x1_S1x1_0_0).toLoadRect
      (harg11.unread x) (Shape.Idx.first h) = x (ix2 0 0) := by
  rw [View.readAt_eq_ld, Memref.IsWhole.read_unread, View.ld_unit_lit' _ _ (by intro a; fin_cases a <;> rfl)]
  exact congrArg x (funext fun a => by fin_cases a <;> rfl)

/-- A least distance and its first position, found by whatever means, are those named above. -/
theorem found_of {x0 : Vec Ideal S1x32x4096 .f32} {x1 : Vec Ideal S1024x32 .f32} {s : Fin 4096} {d i : EReal}
    (h : ∃ k : Fin 1024, IsFirst (fun k => dist (k0_pay7 x1) (k0_pay8 x0) (k0_pay6 x0 x1) k s) k
      ∧ d = dist (k0_pay7 x1) (k0_pay8 x0) (k0_pay6 x0 x1) k s ∧ i = ((k.1 : ℝ) : EReal)) :
    d = dst x0 x1 (pos x0 x1 s) s ∧ i = (((pos x0 x1 s).1 : ℝ) : EReal) := by
  obtain ⟨k, hk, hd, hi⟩ := h
  obtain rfl : k = pos x0 x1 s := hk.unique (pos_isFirst x0 x1 s)
  exact ⟨hd, hi⟩

/-- The product of the codebook with a complete one-hot matrix picks the rows. -/
theorem rows_of {x1 : Vec Ideal S1024x32 .f32} {g : Fin 4096 → Fin 1024}
    {L : List (View.Piece (Elt Ideal) S1024x4096 .bf16)} {v : View sig .tc .vmem S1024x4096 .bf16}
    {i0 : ∀ a, (![0, 0] : Fin 2 → ℕ) a + S1024x4096.size a ≤ S1024x4096.size a} (hL : Bands g 64 L) :
    k0_pay516 (F := Ideal) x1 (v.readCov (Val := Elt Ideal) L
      (Rect.unit (s := S1024x4096) ![0, 0] S1024x4096.size i0).toLoadRect)
      = fun j => x1 (ix2 (g (j 2)) (j 1)) := by
  have e : (v.readCov (Val := Elt Ideal) L (Rect.unit (s := S1024x4096) ![0, 0] S1024x4096.size i0).toLoadRect)
      = View.canon L := by
    rw [View.readCov_eq_canon']
    funext j
    exact congrArg (View.canon L) (funext fun a => Fin.ext (by fin_cases a <;> simp))
  rw [e]
  funext j
  idx_vars j
  pointwise [k0_pay516]
  have hk : ∀ k : Fin 1024, View.canon L (ix2 k j2) = if k = g j2 then (1 : EReal) else 0 := fun k => by
    rw [hL k j2 (by omega)]; simp only [Fin.ext_iff]
  simp only [hk, mul_ite, mul_one, mul_zero, Finset.sum_ite_eq', Finset.mem_univ, if_true]

/-- Positions as floats become words. -/
theorem numbers_of {I : FVec Ideal S1x4096 .f32} {g : Fin 4096 → Fin 1024}
    (hI : ∀ s, I (ix2 0 s) = (((g s).1 : ℝ) : EReal)) :
    k0_pay518 (k0_pay517 I) = fun j : S1x1x4096.Idx => BitVec.ofNat 32 (g (j 2)).1 := by
  funext j
  idx_vars j
  pointwise [k0_pay518, k0_pay517]
  rw [hI]
  show Ideal.fptosi 32 _ = _
  have hlt : (g j2).1 < 1024 := (g j2).2
  have e : Ideal.toIntClamped (-(2 ^ (32 - 1) : ℕ)) ((2 ^ (32 - 1) : ℕ) - 1) (((g j2).1 : ℝ) : EReal) = ((g j2).1 : ℤ) := by
    show max _ (min _ (if 0 ≤ ((g j2).1 : ℝ) then ⌊((g j2).1 : ℝ)⌋ else ⌈((g j2).1 : ℝ)⌉)) = _
    rw [if_pos (Nat.cast_nonneg _), Int.floor_natCast]
    norm_num
    omega
  rw [Ideal.fptosi, e, BitVec.ofInt_natCast]

/-- The sum over the columns. -/
theorem sum_of {D : FVec Ideal S1x4096 .f32} {d : Fin 4096 → EReal} (hD : ∀ s, D (ix2 0 s) = d s) :
    k0_pay519 D = ∑ s, d s := by
  unfold k0_pay519
  pointwise
  simp only [hD, Finset.univ_unique, Finset.sum_singleton]

end VQ
-- ==== Proof.Points.lean ====
/- What each kind of grid point of the kernel leaves in its outputs and in the running sum: the first point (A), a middle
   one (B), the last (C). Each is the common steps' conclusion at that point's own stored pieces. -/
module

public import proofs.«01_k».proof.Proof.Block

@[expose] public section

set_option maxRecDepth 16384

noncomputable section

namespace VQ

open Idealize.ShloMosaic Idealize.ShloMosaic.TcCoe Idealize.SL.Sem
open Cert.KernelIdeal Cert.KernelIdeal.Gen

attribute [local irreducible] select cmpf addf broadcastTo extractStridedSlice broadcast shapeCast truncf View.readCov
  IsSlice Holds dist IsBand Bands

variable (c : Dev nD) (i : grid0.Coords)
  (arg2 : Memref sig .tc .vmem S1x32x4096 .f32) (harg2 : arg2.IsWhole)
  (arg3 : Memref sig .tc .vmem S1024x32 .f32) (harg3 : arg3.IsWhole)
  (arg4 : Memref sig .tc .vmem S1x32x4096 .f32) (harg4 : arg4.IsWhole)
  (arg5 : Memref sig .tc .vmem S1x1x4096 .i32) (harg5 : arg5.IsWhole)
  (arg6 : Memref sig .tc .smem S1x1 .f32) (harg6 : arg6.IsWhole)
  (arg7 : Memref sig .tc .smem S1x1 .f32) (harg7 : arg7.IsWhole)
  (arg8 : Memref sig .tc .smem S1x1 .f32) (harg8 : arg8.IsWhole)
  (arg9 : Memref sig .tc .vmem S1024x4096 .f32) (harg9 : arg9.IsWhole)
  (arg10 : Memref sig .tc .vmem S1024x4096 .bf16) (harg10 : arg10.IsWhole)
  (arg11 : Memref sig .tc .smem S1x1 .f32) (harg11 : arg11.IsWhole)
  (x0 : Vec Ideal S1x32x4096 .f32) (x1 : Vec Ideal S1024x32 .f32) (xs2 : Vec Ideal S1x1 .f32)

/-! ## The pieces a point stores

The three kinds of point compute the same pieces; they are named here as a middle point names them. -/

/-- The distances the kernel compares are those of its two blocks. -/
theorem read :
    dist (k0_pay7 (kernelRun0_B.sl.r c arg3 harg3 x1)) (kernelRun0_B.sl.r_2 c arg2 harg2 x0)
      (k0_pay6 (View.readAt (Elt Ideal) arg2.view
        (Rect.unit ![0, 0, 0] S1x32x4096.size inb_S1x32x4096_S1x32x4096_0_0_0).toLoadRect (harg2.unread x0))
        (kernelRun0_B.sl.r c arg3 harg3 x1))
      = dist (k0_pay7 x1) (k0_pay8 x0) (k0_pay6 x0 x1) := by
  rw [show kernelRun0_B.sl.r_2 c arg2 harg2 x0 = k0_pay8 x0 from congrArg k0_pay8 (load2 harg2 x0),
    show kernelRun0_B.sl.r c arg3 harg3 x1 = x1 from load3 harg3 x1, load2]

set_option maxHeartbeats 2000000 in
/-- The least distance of a column and its first position, as the kernel finds them. -/
theorem found (s : Fin 4096) :
    kernelRun0_B.sl.r_85 c arg2 harg2 arg3 harg3 arg9 x0 x1 (ix2 0 s) = dst x0 x1 (pos x0 x1 s) s
      ∧ kernelRun0_B.sl.r_86 c arg2 harg2 arg3 harg3 arg9 x0 x1 (ix2 0 s) = (((pos x0 x1 s).1 : ℝ) : EReal) := by
  have h := Holds.first (f := dist
      (k0_pay7 (kernelRun0_B.sl.r c arg3 harg3 x1)) (kernelRun0_B.sl.r_2 c arg2 harg2 x0)
      (k0_pay6 (View.readAt (Elt Ideal) arg2.view
        (Rect.unit ![0, 0, 0] S1x32x4096.size inb_S1x32x4096_S1x32x4096_0_0_0).toLoadRect (harg2.unread x0))
        (kernelRun0_B.sl.r c arg3 harg3 x1)))
    (v11 := kernelRun0_B.sl.r_1 c arg3 harg3 x1) (v14 := kernelRun0_B.sl.r_2 c arg2 harg2 x0)
    (b := kernelRun0_B.sl.r_83 c arg2 harg2 arg3 harg3 arg9 x0 x1) (p := kernelRun0_B.sl.r_84 c arg2 harg2 arg3 harg3 arg9 x0 x1)
    (x := kernelRun0_B.sl.v1284 c arg2 harg2 arg3 harg3 arg9 x0 x1)
    (by
      iterate 127 refine Holds.step (by decide) (lit _ _ (by decide)) (slice rfl) ?_
      exact Holds.base (slice rfl)) s
  rw [read] at h
  exact found_of h

set_option maxHeartbeats 2000000 in
/-- All bands of the one-hot matrix. -/
theorem bands : Bands (pos x0 x1) 64 (kernelRun0_B.sl.HS1_64 c arg2 harg2 arg3 harg3 arg9 x0 x1) := by
  have hI := fun s => (found c arg2 harg2 arg3 harg3 arg9 x0 x1 s).2
  iterate 63 refine Bands.cons (by decide) (band hI (by decide) (lit _ _ (by decide))) ?_
  exact Bands.cons (by decide) (band hI (by decide) (Ideal.ofBits_zero_f32.trans (by norm_num))) Bands.nil

/-- The stored rows. -/
theorem rows_piece {i0} : View.canon (Val := Elt Ideal) [⟨Rect.unit (s := S1x32x4096) ![0, 0, 0] ![1, 32, 4096] i0,
    k0_pay516 (kernelRun0_B.sl.r c arg3 harg3 x1)
      (kernelRun0_B.sl.v2077 c arg2 harg2 arg3 harg3 arg9 arg10 x0 x1)⟩] = near x0 x1 :=
  (View.canon_cons_unit_lit' _ _ _ (by intro a; fin_cases a <;> rfl)).trans
    ((congrArg (fun x => k0_pay516 x _) (load3 harg3 x1)).trans (rows_of (bands c arg2 harg2 arg3 harg3 arg9 x0 x1)))

/-- The stored positions. -/
theorem numbers_piece {i0} : View.canon (Val := Elt Ideal) [⟨Rect.unit (s := S1x1x4096) ![0, 0, 0] ![1, 1, 4096] i0,
    k0_pay518 (kernelRun0_B.sl.r_100 c arg2 harg2 arg3 harg3 arg9 x0 x1)⟩] = numbers x0 x1 :=
  (View.canon_cons_unit_lit' _ _ _ (by intro a; fin_cases a <;> rfl)).trans
    (numbers_of fun s => (found c arg2 harg2 arg3 harg3 arg9 x0 x1 s).2)

/-- The sum a point adds. -/
theorem part_piece : kernelRun0_B.sl.r_101 c arg2 harg2 arg3 harg3 arg9 x0 x1 = part x0 x1 :=
  sum_of fun s => (found c arg2 harg2 arg3 harg3 arg9 x0 x1 s).1

/-- A store of one number into the running sum or a scalar output, over whatever was stored before. -/
theorem one_piece (a : EReal) {i0} (L : List (View.Piece (Elt Ideal) S1x1 .f32)) :
    View.canon (Val := Elt Ideal) (⟨Rect.unit (s := S1x1) ![0, 0] ![1, 1] i0, fun _ => a⟩ :: L) = fun _ => a :=
  View.canon_cons_unit_lit' _ _ _ (by intro a; fin_cases a <;> rfl)

/-- The running sum after a point that is not the first. -/
theorem sum_piece : k0_pay1 (kernelRun0_B.sl.r_101 c arg2 harg2 arg3 harg3 arg9 x0 x1) (kernelRun0_B.sl.r_102 c arg11 harg11 xs2)
    = xs2 (ix2 0 0) + part x0 x1 :=
  congrArg₂ (fun a b : EReal => a + b) (load11 harg11 xs2) (part_piece c arg2 harg2 arg3 harg3 arg9 x0 x1)

/-! ## The outputs of each kind of point -/

/-- The rows the first point stores. -/
theorem out2_A (hc0 : cond0_0 i) (hc1 : ¬cond0_1 i) :
    out0_A_2 (F := Ideal) c i arg2 harg2 arg3 harg3 arg4 harg4 arg5 harg5 arg6 harg6 arg7 harg7 arg8
      harg8 arg9 harg9 arg10 harg10 arg11 harg11 hc0 hc1 x0 x1 = near x0 x1 := by
  refine (View.read_writes_junk_eq_canon VO0_2 _).trans ?_
  unfold kernelRun0_A
  dsimp only
  exact rows_piece c arg2 harg2 arg3 harg3 arg9 arg10 x0 x1

/-- The positions the first point stores. -/
theorem out3_A (hc0 : cond0_0 i) (hc1 : ¬cond0_1 i) :
    out0_A_3 (F := Ideal) c i arg2 harg2 arg3 harg3 arg4 harg4 arg5 harg5 arg6 harg6 arg7 harg7 arg8
      harg8 arg9 harg9 arg10 harg10 arg11 harg11 hc0 hc1 x0 x1 = numbers x0 x1 := by
  refine (View.read_writes_junk_eq_canon VO0_3 _).trans ?_
  unfold kernelRun0_A
  dsimp only
  exact numbers_piece c arg2 harg2 arg3 harg3 arg9 x0 x1

/-- The running sum the first point leaves. -/
theorem sum_A (hc0 : cond0_0 i) (hc1 : ¬cond0_1 i) :
    sout0_A_2 (F := Ideal) c i arg2 harg2 arg3 harg3 arg4 harg4 arg5 harg5 arg6 harg6 arg7 harg7 arg8
      harg8 arg9 harg9 arg10 harg10 arg11 harg11 hc0 hc1 x0 x1 = fun _ => Ideal.ofBits .f32 0#32 + part x0 x1 := by
  refine (View.read_writes_junk_eq_canon VS0_2 _).trans ?_
  unfold kernelRun0_A
  dsimp only
  exact (one_piece _ _).trans (funext fun _ => congrArg (fun b : EReal => Ideal.ofBits .f32 0#32 + b) (part_piece c arg2 harg2 arg3 harg3 arg9 x0 x1))

/-- The rows a middle point stores. -/
theorem out2_B (hc0 : ¬cond0_0 i) (hc1 : ¬cond0_1 i) :
    out0_B_2 (F := Ideal) c i arg2 harg2 arg3 harg3 arg4 harg4 arg5 harg5 arg6 harg6 arg7 harg7 arg8
      harg8 arg9 harg9 arg10 harg10 arg11 harg11 hc0 hc1 x0 x1 xs2 = near x0 x1 := by
  refine (View.read_writes_junk_eq_canon VO0_2 _).trans ?_
  unfold kernelRun0_B
  dsimp only
  exact rows_piece c arg2 harg2 arg3 harg3 arg9 arg10 x0 x1

/-- The positions a middle point stores. -/
theorem out3_B (hc0 : ¬cond0_0 i) (hc1 : ¬cond0_1 i) :
    out0_B_3 (F := Ideal) c i arg2 harg2 arg3 harg3 arg4 harg4 arg5 harg5 arg6 harg6 arg7 harg7 arg8
      harg8 arg9 harg9 arg10 harg10 arg11 harg11 hc0 hc1 x0 x1 xs2 = numbers x0 x1 := by
  refine (View.read_writes_junk_eq_canon VO0_3 _).trans ?_
  unfold kernelRun0_B
  dsimp only
  exact numbers_piece c arg2 harg2 arg3 harg3 arg9 x0 x1

/-- The running sum a middle point leaves. -/
theorem sum_B (hc0 : ¬cond0_0 i) (hc1 : ¬cond0_1 i) :
    sout0_B_2 (F := Ideal) c i arg2 harg2 arg3 harg3 arg4 harg4 arg5 harg5 arg6 harg6 arg7 harg7 arg8
      harg8 arg9 harg9 arg10 harg10 arg11 harg11 hc0 hc1 x0 x1 xs2 = fun _ => xs2 (ix2 0 0) + part x0 x1 := by
  refine (View.read_writes_junk_eq_canon VS0_2 _).trans ?_
  unfold kernelRun0_B
  dsimp only
  exact (one_piece _ _).trans (funext fun _ => sum_piece c arg2 harg2 arg3 harg3 arg9 arg11 harg11 x0 x1 xs2)

/-- The rows the last point stores. -/
theorem out2_C (hc0 : ¬cond0_0 i) (hc1 : cond0_1 i) :
    out0_C_2 (F := Ideal) c i arg2 harg2 arg3 harg3 arg4 harg4 arg5 harg5 arg6 harg6 arg7 harg7 arg8
      harg8 arg9 harg9 arg10 harg10 arg11 harg11 hc0 hc1 x0 x1 xs2 = near x0 x1 := by
  refine (View.read_writes_junk_eq_canon VO0_2 _).trans ?_
  unfold kernelRun0_C
  dsimp only
  exact rows_piece c arg2 harg2 arg3 harg3 arg9 arg10 x0 x1

/-- The positions the last point stores. -/
theorem out3_C (hc0 : ¬cond0_0 i) (hc1 : cond0_1 i) :
    out0_C_3 (F := Ideal) c i arg2 harg2 arg3 harg3 arg4 harg4 arg5 harg5 arg6 harg6 arg7 harg7 arg8
      harg8 arg9 harg9 arg10 harg10 arg11 harg11 hc0 hc1 x0 x1 xs2 = numbers x0 x1 := by
  refine (View.read_writes_junk_eq_canon VO0_3 _).trans ?_
  unfold kernelRun0_C
  dsimp only
  exact numbers_piece c arg2 harg2 arg3 harg3 arg9 x0 x1

/-- The running sum the last point leaves. -/
theorem sum_C (hc0 : ¬cond0_0 i) (hc1 : cond0_1 i) :
    sout0_C_2 (F := Ideal) c i arg2 harg2 arg3 harg3 arg4 harg4 arg5 harg5 arg6 harg6 arg7 harg7 arg8
      harg8 arg9 harg9 arg10 harg10 arg11 harg11 hc0 hc1 x0 x1 xs2 = fun _ => xs2 (ix2 0 0) + part x0 x1 := by
  refine (View.read_writes_junk_eq_canon VS0_2 _).trans ?_
  unfold kernelRun0_C
  dsimp only
  exact (one_piece _ _).trans (funext fun _ => sum_piece c arg2 harg2 arg3 harg3 arg9 arg11 harg11 x0 x1 xs2)

/-- The total loss the last point stores. -/
theorem out4_C (hc0 : ¬cond0_0 i) (hc1 : cond0_1 i) :
    out0_C_4 (F := Ideal) c i arg2 harg2 arg3 harg3 arg4 harg4 arg5 harg5 arg6 harg6 arg7 harg7 arg8
      harg8 arg9 harg9 arg10 harg10 arg11 harg11 hc0 hc1 x0 x1 xs2 = fun _ => k0_pay4 (F := Ideal) (xs2 (ix2 0 0) + part x0 x1) := by
  refine (View.read_writes_junk_eq_canon VO0_4 _).trans ?_
  unfold kernelRun0_C
  dsimp only
  exact (one_piece _ _).trans (funext fun _ => congrArg (k0_pay4 (F := Ideal))
    (sum_piece c arg2 harg2 arg3 harg3 arg9 arg11 harg11 x0 x1 xs2))

/-- The commitment loss the last point stores. -/
theorem out5_C (hc0 : ¬cond0_0 i) (hc1 : cond0_1 i) :
    out0_C_5 (F := Ideal) c i arg2 harg2 arg3 harg3 arg4 harg4 arg5 harg5 arg6 harg6 arg7 harg7 arg8
      harg8 arg9 harg9 arg10 harg10 arg11 harg11 hc0 hc1 x0 x1 xs2 = fun _ => k0_pay3 (F := Ideal) (xs2 (ix2 0 0) + part x0 x1) := by
  refine (View.read_writes_junk_eq_canon VO0_5 _).trans ?_
  unfold kernelRun0_C
  dsimp only
  exact (one_piece _ _).trans (funext fun _ => congrArg (k0_pay3 (F := Ideal))
    (sum_piece c arg2 harg2 arg3 harg3 arg9 arg11 harg11 x0 x1 xs2))

/-- The codebook loss the last point stores. -/
theorem out6_C (hc0 : ¬cond0_0 i) (hc1 : cond0_1 i) :
    out0_C_6 (F := Ideal) c i arg2 harg2 arg3 harg3 arg4 harg4 arg5 harg5 arg6 harg6 arg7 harg7 arg8
      harg8 arg9 harg9 arg10 harg10 arg11 harg11 hc0 hc1 x0 x1 xs2 = fun _ => k0_pay2 (F := Ideal) (xs2 (ix2 0 0) + part x0 x1) := by
  refine (View.read_writes_junk_eq_canon VO0_6 _).trans ?_
  unfold kernelRun0_C
  dsimp only
  exact (one_piece _ _).trans (funext fun _ => congrArg (k0_pay2 (F := Ideal))
    (sum_piece c arg2 harg2 arg3 harg3 arg9 arg11 harg11 x0 x1 xs2))

end VQ
-- ==== Proof.Arrays.lean ====
/- The five arrays the kernel leaves, as terms over its two arguments: the rows nearest to the tokens, their positions, and
   the three losses, each a multiple of the sum of the least distances. -/
module

public import proofs.«01_k».proof.Proof.Points
public import proofs.«01_k».proof.Proof.Gen.KernelIdeal.Value
public import Idealize.ShloMosaic.Lib.Pipeline.ValueKit
public import Idealize.ShloMosaic.Lib.Claim

@[expose] public section

set_option maxRecDepth 16384

noncomputable section

namespace VQ

open Idealize.ShloMosaic Idealize.ShloMosaic.TcCoe Idealize.SL.Sem
open Cert.KernelIdeal Cert.KernelIdeal.Gen Cert.KernelIdeal.Value

/-! ## The arrays -/

/-- The tokens as the kernel takes them: one column per token. -/
def cols (z : FVec Ideal S8x32x64x64 .f32) : FVec Ideal S8x32x4096 .f32 :=
  shapeCast S8x32x4096 z shapeCasts_S8x32x64x64_S8x32x4096

/-- The tokens of one batch. -/
def batch (z : FVec Ideal S8x32x64x64 .f32) (b : Fin 8) : Vec Ideal S1x32x4096 .f32 :=
  fun j => cols z (ix3 b (j 1) (j 2))

/-- For every token, the codebook row nearest to it. -/
def rowsK (z : FVec Ideal S8x32x64x64 .f32) (e : FVec Ideal S1024x32 .f32) : FVec Ideal S8x32x4096 .f32 :=
  fun i => e (ix2 (pos (batch z (i 0)) e (i 2)) (i 1))

/-- For every token, the position of that row. -/
def idsK (z : FVec Ideal S8x32x64x64 .f32) (e : FVec Ideal S1024x32 .f32) : IVec S8x1x4096 32 :=
  fun i => BitVec.ofNat 32 (pos (batch z (i 0)) e (i 2)).1

/-- The sum of all least distances. -/
def totalK (z : FVec Ideal S8x32x64x64 .f32) (e : FVec Ideal S1024x32 .f32) : EReal :=
  ∑ b : Fin 8, part (batch z b) e

/-! ## The blocks of a point -/

variable (m : (ℓ : Loc nD τ sig) → Buf (Elt Ideal) ℓ) (c : Dev nD)

/-- The first argument. -/
abbrev argZ : FVec Ideal S8x32x64x64 .f32 := m ((c : Thread nD τ).loc main_arg0)
/-- The second argument. -/
abbrev argE : FVec Ideal S1024x32 .f32 := m ((c : Thread nD τ).loc main_arg1)

/-- Where the windows stand at a point. -/
theorem idx : ∀ t : Fin cfg0.N, win0_0.index t = ![t.val, 0, 0] ∧ win0_1.index t = ![0, 0]
    ∧ win0_2.index t = ![t.val, 0, 0] ∧ win0_3.index t = ![t.val, 0, 0] :=
  (by decide +kernel : ∀ t : Fin grid0.N, _)

/-- A point as a batch number. -/
def num (t : Fin cfg0.N) : Fin 8 := ⟨t.val, lt_of_lt_of_eq t.isLt N_0⟩

/-- The first block of a point is its batch. -/
theorem iblk0 (t : Fin cfg0.N) : iblk m c 0 t = batch (argZ m c) (num t) := by
  funext j
  have e : V m c main_v0 = cols (argZ m c) := by entry_read; rfl
  blk_simp [iblk]
  rw [e]
  unfold batch
  blk_ext [idx t, num]

/-- The second block of a point is the whole codebook. -/
theorem iblk1 (t : Fin cfg0.N) : iblk m c 1 t = argE m c := by
  funext j
  blk_ext [iblk, V, idx t]

/-- The running sum after a point. -/
def acc (n : ℕ) (h : n < cfg0.N) : EReal := (outsAt0 m c n h).2.2.2.2.2 (ix2 0 0)

/-- What every point leaves in the two array outputs. -/
theorem outs23 (t : Fin cfg0.N) :
    (outsAt0 m c t.val t.isLt).1 = near (iblk m c 0 t) (iblk m c 1 t)
      ∧ (outsAt0 m c t.val t.isLt).2.1 = numbers (iblk m c 0 t) (iblk m c 1 t) := by
  by_cases h0 : t.val % 8 = 0
  · have h1 : ¬t.val % 8 = 7 := by omega
    rw [outsAt0_A m c t h0 h1]
    dsimp only
    exact ⟨out2_A .., out3_A ..⟩
  · by_cases h1 : t.val % 8 = 7
    · rw [outsAt0_C m c t h0 h1]
      dsimp only
      exact ⟨out2_C .., out3_C ..⟩
    · rw [outsAt0_B m c t h0 h1]
      dsimp only
      exact ⟨out2_B .., out3_B ..⟩

/-- The first point starts the running sum. -/
theorem acc_zero (t : Fin cfg0.N) (h0 : t.val % 8 = 0) :
    acc m c t.val t.isLt = 0 + part (batch (argZ m c) (num t)) (argE m c) := by
  have h1 : ¬t.val % 8 = 7 := by omega
  unfold acc
  rw [outsAt0_A m c t h0 h1]
  dsimp only
  refine (congrFun (sum_A ..) _).trans ?_
  rw [iblk0, iblk1, Ideal.ofBits_zero_f32]

/-- Every other point adds to it. -/
theorem acc_succ (t : Fin cfg0.N) (h0 : ¬t.val % 8 = 0) :
    acc m c t.val t.isLt = acc m c (t.val - 1) (Nat.lt_of_le_of_lt (Nat.sub_le _ _) t.isLt)
      + part (batch (argZ m c) (num t)) (argE m c) := by
  rw [← iblk0, ← iblk1]
  unfold acc
  by_cases h1 : t.val % 8 = 7
  · rw [outsAt0_C m c t h0 h1]
    dsimp only
    exact congrFun (sum_C ..) _
  · rw [outsAt0_B m c t h0 h1]
    dsimp only
    exact congrFun (sum_B ..) _

/-- After the last point it is the sum of all least distances. -/
theorem acc_last : acc m c t0_7.val t0_7.isLt = totalK (argZ m c) (argE m c) := by
  have hn : ∀ t : Fin cfg0.N, Fin.ofNat 8 t.val = num t := fun t =>
    Fin.ext (Nat.mod_eq_of_lt (lt_of_lt_of_eq t.isLt N_0))
  rw [Pipeline.eq_sum_of_reset_step_single (acc m c) 8 (0 : EReal)
    (fun n => part (batch (argZ m c) (Fin.ofNat 8 n)) (argE m c))
    (fun t h => by rw [acc_zero m c t h, hn]) (fun t h => by rw [acc_succ m c t h, hn]) (le_of_eq N_0) t0_7, zero_add]
  show ∑ k ∈ Finset.range 8, _ = _
  rw [Finset.sum_range]
  exact Finset.sum_congr rfl fun b _ => by rw [Fin.ofNat_val_eq_self]

/-- The last point's three scalar outputs. -/
theorem outs456 (t : Fin cfg0.N) (h1 : t.val % 8 = 7) :
    (outsAt0 m c t.val t.isLt).2.2.1 = (fun _ => k0_pay4 (F := Ideal) (acc m c t.val t.isLt))
      ∧ (outsAt0 m c t.val t.isLt).2.2.2.1 = (fun _ => k0_pay3 (F := Ideal) (acc m c t.val t.isLt))
      ∧ (outsAt0 m c t.val t.isLt).2.2.2.2.1 = (fun _ => k0_pay2 (F := Ideal) (acc m c t.val t.isLt)) := by
  have h0 : ¬t.val % 8 = 0 := by omega
  rw [acc_succ m c t h0, ← iblk0, ← iblk1]
  unfold acc
  rw [outsAt0_C m c t h0 h1]
  dsimp only
  exact ⟨out4_C .., out5_C .., out6_C ..⟩

/-! ## The final arrays -/

/-- The array of rows. -/
theorem final2 : (dats m 0 c).arrAt 2 cfg0.N = rowsK (argZ m c) (argE m c) := by
  refine (dats m 0 c).arrAt_eq_of_covers 2 _ (by decide +kernel) fun t hf y => ?_
  blk_simp
  rw [after0_2, (outs23 m c t).1, iblk0, iblk1]
  unfold near rowsK
  rw [show (win0_2.blk t).view.emb y = ix3 (num t) (y 1) (y 2) by blk_ext [idx t, num]]
  rfl

/-- The array of positions. -/
theorem final3 : (dats m 0 c).arrAt 3 cfg0.N = idsK (argZ m c) (argE m c) := by
  refine (dats m 0 c).arrAt_eq_of_covers 3 _ (by decide +kernel) fun t hf y => ?_
  blk_simp
  rw [after0_3, (outs23 m c t).2, iblk0, iblk1]
  unfold numbers idsK
  rw [show (win0_3.blk t).view.emb y = ix3 (num t) (y 1) (y 2) by blk_ext [idx t, num]]
  rfl

/-- The total loss. -/
theorem final4 : (dats m 0 c).arrAt 4 cfg0.N = fun _ => k0_pay4 (F := Ideal) (totalK (argZ m c) (argE m c)) := by
  refine (dats m 0 c).arrAt_eq_of_after_last 4 t0_7 (by decide +kernel) _ fun j => ?_
  blk_simp
  rw [after0_4, (outs456 m c t0_7 rfl).1, acc_last]

/-- The commitment loss. -/
theorem final5 : (dats m 0 c).arrAt 5 cfg0.N = fun _ => k0_pay3 (F := Ideal) (totalK (argZ m c) (argE m c)) := by
  refine (dats m 0 c).arrAt_eq_of_after_last 5 t0_7 (by decide +kernel) _ fun j => ?_
  blk_simp
  rw [after0_5, (outs456 m c t0_7 rfl).2.1, acc_last]

/-- The codebook loss. -/
theorem final6 : (dats m 0 c).arrAt 6 cfg0.N = fun _ => k0_pay2 (F := Ideal) (totalK (argZ m c) (argE m c)) := by
  refine (dats m 0 c).arrAt_eq_of_after_last 6 t0_7 (by decide +kernel) _ fun j => ?_
  blk_simp
  rw [after0_6, (outs456 m c t0_7 rfl).2.2, acc_last]

end VQ
-- ==== Proof.Reals.lean ====
/- The arithmetic of squared distances over the real numbers, and the float words the two programs use. -/
module

public import Idealize.ShloMosaic.PureOps.Ideal
public import Idealize.ShloMosaic.Lib.Pointwise

@[expose] public section

noncomputable section

namespace VQ

open Idealize.ShloMosaic

/-- An array of real numbers, as extended reals. -/
def lift {ι : Type} (f : ι → ℝ) : ι → EReal := fun i => (f i : EReal)

/-- The squared distance of two vectors. -/
def gap (x y : Fin 32 → ℝ) : ℝ := ∑ d, (y d - x d) * (y d - x d)

/-- Token `s` of batch `b`. -/
def tok (z : (⟨4, ![8, 32, 64, 64]⟩ : Shape).Idx → ℝ) (b : Fin 8) (s : Fin 4096) : Fin 32 → ℝ :=
  fun d => z (ix4 b d ⟨s.1 / 64, by omega⟩ ⟨s.1 % 64, by omega⟩)

/-- The row of token `s` of batch `b` in the matrix of all tokens. -/
def flat (b : Fin 8) (s : Fin 4096) : Fin 32768 := ⟨b.1 * 4096 + s.1, by omega⟩

/-- A finite sum of real numbers is the sum of their images among the extended reals. -/
theorem lift_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The word of 2. -/
theorem word_two : Ideal.ofBits .f32 0x40000000#32 = ((2 : ℝ) : EReal) := by
  simp [Ideal.ofBits, Ideal.ieee, -EReal.coe_mul]; norm_num

/-- The word of -2. -/
theorem word_neg_two : Ideal.ofBits .f32 0xC0000000#32 = ((-2 : ℝ) : EReal) := by
  simp [Ideal.ofBits, Ideal.ieee, -EReal.coe_mul]; norm_num

/-- The word of 2^20, the number of elements. -/
theorem word_count : Ideal.ofBits .f32 0x49800000#32 = ((1048576 : ℝ) : EReal) := by
  simp [Ideal.ofBits, Ideal.ieee, -EReal.coe_mul]; norm_num

/-- The word of 2^-20. -/
theorem word_inv_count : Ideal.ofBits .f32 0x35800000#32 = ((1 / 1048576 : ℝ) : EReal) := by
  simp [Ideal.ofBits, Ideal.ieee, -EReal.coe_mul]; norm_num

/-- The kernel's expanded form of the squared distance. -/
theorem gap_kernel (x y : Fin 32 → ℝ) :
    ((∑ d, (x d : EReal) * (x d : EReal)) + ∑ d, (y d : EReal) * (y d : EReal)) + ∑ d, (y d : EReal) * ((-2 : ℝ) : EReal) * (x d : EReal)
      = (gap x y : EReal) := by
  simp only [← EReal.coe_mul, lift_sum, ← EReal.coe_add]
  rw [gap, ← Finset.sum_add_distrib, ← Finset.sum_add_distrib]
  exact congrArg _ (Finset.sum_congr rfl fun d _ => by ring)

/-- The reference's expanded form of the squared distance. -/
theorem gap_reference (x y : Fin 32 → ℝ) :
    ((∑ d, (x d : EReal) * (x d : EReal)) + ∑ d, (y d : EReal) * (y d : EReal)) - ((2 : ℝ) : EReal) * ∑ d, (x d : EReal) * (y d : EReal)
      = (gap x y : EReal) := by
  simp only [← EReal.coe_mul, lift_sum, ← EReal.coe_add, ← EReal.coe_sub]
  rw [gap, Finset.mul_sum, ← Finset.sum_add_distrib, ← Finset.sum_sub_distrib]
  exact congrArg _ (Finset.sum_congr rfl fun d _ => by ring)

/-- Adding back what was taken away. -/
theorem add_sub_back (x y : ℝ) : (x : EReal) + ((y : EReal) - (x : EReal)) = (y : EReal) := by
  rw [← EReal.coe_sub, ← EReal.coe_add]
  exact congrArg _ (by ring)

/-- The squared distance as a sum of squares of differences. -/
theorem gap_squares (x y : Fin 32 → ℝ) :
    (∑ d, ((y d : EReal) - (x d : EReal)) * ((y d : EReal) - (x d : EReal))) = (gap x y : EReal) := by
  simp only [← EReal.coe_sub, ← EReal.coe_mul, lift_sum]
  rfl

end VQ
-- ==== Proof.KerRead.lean ====
/- The kernel's distances over real arguments: squared distances of tokens and codebook rows. -/
module

public import proofs.«01_k».proof.Proof.Arrays
public import proofs.«01_k».proof.Proof.Reals
public import Idealize.ShloMosaic.Lib.Pointwise

@[expose] public section

set_option maxRecDepth 16384

noncomputable section

namespace VQ

open Idealize.ShloMosaic Idealize.ShloMosaic.TcCoe Idealize.SL.Sem
open Cert.KernelIdeal Cert.KernelIdeal.Gen

/-- The kernel's distance, written out. -/
theorem dst_read (x0 : FVec Ideal S1x32x4096 .f32) (x1 : FVec Ideal S1024x32 .f32) (k : Fin 1024) (s : Fin 4096) :
    dst x0 x1 k s = ((∑ d : Fin 32, x0 (ix3 0 d s) * x0 (ix3 0 d s)) + ∑ d : Fin 32, x1 (ix2 k d) * x1 (ix2 k d))
      + ∑ d : Fin 32, x1 (ix2 k d) * Ideal.ofBits .f32 0xC0000000#32 * x0 (ix3 0 d s) := by
  unfold dst dist
  pointwise [k0_pay5, k0_pay6, k0_pay7, k0_pay8]

/-- A token of the kernel, read in the argument. -/
theorem cols_read (z : FVec Ideal S8x32x64x64 .f32) (b : Fin 8) (d : Fin 32) (s : Fin 4096) :
    cols z (ix3 b d s) = z (ix4 b d ⟨s.1 / 64, by omega⟩ ⟨s.1 % 64, by omega⟩) := by
  pointwise [cols]

/-- Over real arguments the kernel's distance is the squared distance. -/
theorem dst_gap (z : S8x32x64x64.Idx → ℝ) (e : S1024x32.Idx → ℝ) (b : Fin 8) (k : Fin 1024) (s : Fin 4096) :
    dst (batch (lift z) b) (lift e) k s = (gap (tok z b s) (fun d => e (ix2 k d)) : EReal) := by
  rw [← gap_kernel]
  refine (dst_read (batch (lift z) b) (lift e) k s).trans ?_
  have h : ∀ d : Fin 32, batch (lift z) b (ix3 0 d s) = (tok z b s d : EReal) := fun d => cols_read (lift z) b d s
  rw [word_neg_two]
  simp only [h]
  rfl

/-- The codebook loss: the sum times 2^-20, the mean. -/
theorem pay2_read (a : EReal) : k0_pay2 (F := Ideal) a = a * Ideal.ofBits .f32 0x35800000#32 := rfl
/-- The commitment loss: a quarter of the mean. -/
theorem pay3_read (a : EReal) : k0_pay3 (F := Ideal) a = Ideal.ofBits .f32 0x3E800000#32 * k0_pay2 (F := Ideal) a := rfl
/-- The total loss: a quarter of the mean, and the mean. -/
theorem pay4_read (a : EReal) :
    k0_pay4 (F := Ideal) a = Ideal.ofBits .f32 0x3E800000#32 * k0_pay2 (F := Ideal) a + k0_pay2 (F := Ideal) a := rfl

/-- The sum of all least distances, over real arguments. -/
theorem total_gap (z : S8x32x64x64.Idx → ℝ) (e : S1024x32.Idx → ℝ) :
    totalK (lift z) (lift e)
      = ∑ b : Fin 8, ∑ s : Fin 4096, (gap (tok z b s) (fun d => e (ix2 (pos (batch (lift z) b) (lift e) s) d)) : EReal) := by
  unfold totalK part
  exact Finset.sum_congr rfl fun b _ => Finset.sum_congr rfl fun s _ => dst_gap z e b _ s

end VQ
-- ==== Proof.RefRun.lean ====
/- The run of the reference program: what its five results hold, as terms over its two arguments.
   The program is one straight line of 71 array operations. It is read in four stretches (the distances, the arg-min,
   the row lookup, the results), each stretch as a named function of what the one before it left. -/
module

public import proofs.«01_k».proof.Defs
public import proofs.«01_k».proof.Proof.Gen.ReferenceIdeal
public import Idealize.ShloMosaic.Lib.Claim
public import Idealize.ShloMosaic.Lib.StableHlo.RunRead
public import Idealize.ShloMosaic.Lib.Pipeline.Frame
public import Idealize.ShloMosaic.Adequacy
public import Idealize.ShloMosaic.Init

@[expose] public section

set_option maxRecDepth 16384

noncomputable section

namespace VQ.Ref

open Idealize.ShloMosaic Idealize.ShloMosaic.TcCoe Idealize.SL.Sem Idealize.ShloMosaic.StableHlo
open Cert.ReferenceIdeal Cert.ReferenceIdeal.Gen

/-! ## The functions -/

/-- The tokens, one per row. -/
def tokens (z : FVec Ideal S8x32x64x64 .f32) : FVec Ideal S8x64x64x32 .f32 :=
  transpose S8x64x64x32 [0, 2, 3, 1] z transposes_S8x32x64x64_S8x64x64x32_0_2_3_1

/-- The squared distances of every token to every codebook row, in the expanded form. -/
def dists (zl : FVec Ideal S8x64x64x32 .f32) (e : FVec Ideal S1024x32 .f32) : FVec Ideal S32768x1024 .f32 :=
  subf
    (addf
      (broadcastInDim S32768x1024 ![0, 1] bcast_S32768x1_S32768x1024_0_1
        (broadcastInDim S32768x1 ![0] bcast_S32768_S32768x1_0
          (Host.reduceAdd (mulf (shapeCast S32768x32 zl shapeCasts_S8x64x64x32_S32768x32)
              (shapeCast S32768x32 zl shapeCasts_S8x64x64x32_S32768x32))
            (constant S_ .f32 0x00000000#32) reducesTo_S32768x32_S32768_d1 h_S_)))
      (broadcastInDim S32768x1024 ![0, 1] bcast_S1x1024_S32768x1024_0_1
        (broadcastInDim S1x1024 ![1] bcast_S1024_S1x1024_1
          (Host.reduceAdd (mulf e e) (constant S_ .f32 0x00000000#32) reducesTo_S1024x32_S1024_d1 h_S_))))
    (mulf
      (broadcastInDim S32768x1024 ![] bcast_S_S32768x1024 (constant S_ .f32 0x40000000#32))
      (Host.dotGeneral dot_S32768x32_S32x1024_S32768x1024_1_0_0_1_n_n none
        (shapeCast S32768x32 zl shapeCasts_S8x64x64x32_S32768x32)
        (transpose S32x1024 [1, 0] e transposes_S1024x32_S32x1024_1_0)))

/-- The position of each row's least entry. -/
def argmin (d : FVec Ideal S32768x1024 .f32) : IVec S32768 32 := fun j =>
  (Host.argReduce reducer_argmin_f32_i32 d (iotaInDim S32768x1024 32 1) (constant S_ .f32 0x7F800000#32)
    (constantI S_ 32 0#32) reducesTo_S32768x1024_S32768_d1 h_S_ j).2

/-- The row number the lookup uses: a negative one counts from the end. -/
def rowNo (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- Whether the row number names a row. -/
def rowOk (n : IVec S32768x1 32) : IVec S32768 1 :=
  Host.reduce IntOp.andi
    (andi (cmpi .sge n (broadcastInDim S32768x1 ![] bcast_S_S32768x1 (constantI S_ 32 0#32)))
      (cmpi .sle n (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The codebook rows at the given numbers. -/
def take (e : FVec Ideal S1024x32 .f32) (i : IVec S32768 32) : FVec Ideal S32768x32 .f32 :=
  select (broadcastInDim S32768x32 ![0] bcast_S32768_S32768x32_0 (rowOk (rowNo i)))
    (Host.gather gather_S1024x32_S32768x1_S32768x32_1_0_n_n_0_1_132 e (rowNo i))
    (broadcastInDim S32768x32 ![] bcast_S_S32768x32 (constant S_ .f32 0x7FC00000#32))

/-- The mean of the squared differences between the rows looked up and the tokens. -/
def mse (zl : FVec Ideal S8x64x64x32 .f32) (q : FVec Ideal S32768x32 .f32) : FVec Ideal S_ .f32 :=
  Host.divf
    (Host.reduceAdd
      (mulf (subf (shapeCast S8x64x64x32 q shapeCasts_S32768x32_S8x64x64x32) zl)
        (subf (shapeCast S8x64x64x32 q shapeCasts_S32768x32_S8x64x64x32) zl))
      (constant S_ .f32 0x00000000#32) reducesTo_S8x64x64x32_S_d0_1_2_3 h_S_)
    (constant S_ .f32 0x49800000#32)

/-- A quarter of that mean. -/
def quarter (x : FVec Ideal S_ .f32) : FVec Ideal S_ .f32 := mulf (constant S_ .f32 0x3E800000#32) x

/-- The quantized tokens in the layout of the input. -/
def quant (zl : FVec Ideal S8x64x64x32 .f32) (q : FVec Ideal S32768x32 .f32) : FVec Ideal S8x32x4096 .f32 :=
  shapeCast S8x32x4096
    (transpose S8x32x64x64 [0, 3, 1, 2]
      (addf zl (subf (shapeCast S8x64x64x32 q shapeCasts_S32768x32_S8x64x64x32) zl))
      transposes_S8x64x64x32_S8x32x64x64_0_3_1_2)
    shapeCasts_S8x32x64x64_S8x32x4096

/-! ## The line of operations, and its four stretches -/

/-- The program's operations, read off its text. -/
def line : { ops : List (HloOp τ sig (Elt Ideal)) // ∀ d, IsSeq (main (F := Ideal) d) ops } := by
  apply Subtype.mk
  hlo_seq

/-- The distances. -/
def line1 : List (HloOp τ sig (Elt Ideal)) := line.1.take 19
/-- The arg-min. -/
def line2 : List (HloOp τ sig (Elt Ideal)) := (line.1.drop 19).take 5
/-- The row lookup. -/
def line3 : List (HloOp τ sig (Elt Ideal)) := (line.1.drop 24).take 23
/-- The results. -/
def line4 : List (HloOp τ sig (Elt Ideal)) := line.1.drop 47

variable (V : Valuation τ sig (Elt Ideal))

/-- The first stretch leaves the tokens. -/
theorem line1_v0 : after line1 V (no_index (Proc.devRef .tc main_v0)) = tokens (V (Proc.devRef .tc main_arg0)) := by
  after_reads_simp
  rfl

/-- The first stretch leaves the distances. -/
theorem line1_v15 : after line1 V (no_index (Proc.devRef .tc main_v15))
    = dists (tokens (V (Proc.devRef .tc main_arg0))) (V (Proc.devRef .tc main_arg1)) := by
  after_reads_simp
  rfl

/-- The second stretch leaves the positions of the least distances. -/
theorem line2_v16 : after line2 V (no_index (Proc.devRef .tc main_v16)) = argmin (V (Proc.devRef .tc main_v15)) := by
  after_reads_simp
  rfl

/-- The third stretch leaves the rows at those positions. -/
theorem line3_v17 : after line3 V (no_index (Proc.devRef .tc main_v17))
    = take (V (Proc.devRef .tc main_arg1)) (V (Proc.devRef .tc main_v16)) := by
  after_reads_simp
  simp only [TRef.ofBuf_toBuf, TRef.ofBuf, TRef.toBuf, cast_eq]
  rfl

/-- The results, over what the first three stretches left. -/
theorem line4_results :
    after line4 V (Proc.devRef .tc main_v32) = quant (V (Proc.devRef .tc main_v0)) (V (Proc.devRef .tc main_v17))
    ∧ after line4 V (Proc.devRef .tc main_v33)
      = shapeCast S1x1 (addf (quarter (mse (V (Proc.devRef .tc main_v0)) (V (Proc.devRef .tc main_v17))))
          (mse (V (Proc.devRef .tc main_v0)) (V (Proc.devRef .tc main_v17)))) shapeCasts_S_S1x1
    ∧ after line4 V (Proc.devRef .tc main_v34)
      = shapeCast S1x1 (quarter (mse (V (Proc.devRef .tc main_v0)) (V (Proc.devRef .tc main_v17)))) shapeCasts_S_S1x1
    ∧ after line4 V (Proc.devRef .tc main_v35)
      = shapeCast S1x1 (mse (V (Proc.devRef .tc main_v0)) (V (Proc.devRef .tc main_v17))) shapeCasts_S_S1x1
    ∧ after line4 V (Proc.devRef .tc main_v36)
      = shapeCast S8x1x4096 (V (Proc.devRef .tc main_v16)) shapeCasts_S32768_S8x1x4096 := by
  refine ⟨?_, ?_, ?_, ?_, ?_⟩ <;> after_reads_simp <;> rfl

/-- What no stretch writes. -/
theorem kept :
    after line1 V (Proc.devRef .tc main_arg0) = V (Proc.devRef .tc main_arg0)
    ∧ after line1 V (Proc.devRef .tc main_arg1) = V (Proc.devRef .tc main_arg1)
    ∧ after line2 V (Proc.devRef .tc main_v0) = V (Proc.devRef .tc main_v0)
    ∧ after line2 V (Proc.devRef .tc main_arg1) = V (Proc.devRef .tc main_arg1)
    ∧ after line3 V (Proc.devRef .tc main_v0) = V (Proc.devRef .tc main_v0)
    ∧ after line3 V (Proc.devRef .tc main_v16) = V (Proc.devRef .tc main_v16) := by
  refine ⟨?_, ?_, ?_, ?_, ?_, ?_⟩ <;> after_reads_simp

/-- The whole line leaves the arguments as they were. -/
theorem kept_args :
    after line.1 V (Proc.devRef .tc main_arg0) = V (Proc.devRef .tc main_arg0)
    ∧ after line.1 V (Proc.devRef .tc main_arg1) = V (Proc.devRef .tc main_arg1) := by
  refine ⟨?_, ?_⟩ <;> after_reads_simp

/-- The line is its four stretches, one after the other. -/
theorem after_line : after line.1 V = after line4 (after line3 (after line2 (after line1 V))) := by
  rw [← StableHlo.after_append, ← StableHlo.after_append, ← StableHlo.after_append]
  rfl

/-! ## The run -/

/-- The row numbers the reference finds. -/
def ids (z : FVec Ideal S8x32x64x64 .f32) (e : FVec Ideal S1024x32 .f32) : IVec S32768 32 := argmin (dists (tokens z) e)

/-- The rows the reference looks up. -/
def rows (z : FVec Ideal S8x32x64x64 .f32) (e : FVec Ideal S1024x32 .f32) : FVec Ideal S32768x32 .f32 := take e (ids z e)

variable (m : (ℓ : Loc nD τ sig) → Buf (Elt Ideal) ℓ) (g : Dev nD → PrngReg)

/-- The reference runs from any memory, and ends with its five results at these terms over its arguments, the arguments
    as they were. -/
theorem run : θ_run (defs (F := Ideal)) (onTc (τ := τ) (main (F := Ideal))) ⟨m, fun _ => 0, g⟩ (fun r => ∀ c : Dev nD,
    r.2.mem ((c.tc : Thread nD τ).loc main_v32)
      = quant (tokens (m ((c.tc : Thread nD τ).loc main_arg0)))
          (rows (m ((c.tc : Thread nD τ).loc main_arg0)) (m ((c.tc : Thread nD τ).loc main_arg1)))
    ∧ r.2.mem ((c.tc : Thread nD τ).loc main_v33)
      = shapeCast S1x1 (addf
          (quarter (mse (tokens (m ((c.tc : Thread nD τ).loc main_arg0)))
            (rows (m ((c.tc : Thread nD τ).loc main_arg0)) (m ((c.tc : Thread nD τ).loc main_arg1)))))
          (mse (tokens (m ((c.tc : Thread nD τ).loc main_arg0)))
            (rows (m ((c.tc : Thread nD τ).loc main_arg0)) (m ((c.tc : Thread nD τ).loc main_arg1))))) shapeCasts_S_S1x1
    ∧ r.2.mem ((c.tc : Thread nD τ).loc main_v34)
      = shapeCast S1x1 (quarter (mse (tokens (m ((c.tc : Thread nD τ).loc main_arg0)))
          (rows (m ((c.tc : Thread nD τ).loc main_arg0)) (m ((c.tc : Thread nD τ).loc main_arg1))))) shapeCasts_S_S1x1
    ∧ r.2.mem ((c.tc : Thread nD τ).loc main_v35)
      = shapeCast S1x1 (mse (tokens (m ((c.tc : Thread nD τ).loc main_arg0)))
          (rows (m ((c.tc : Thread nD τ).loc main_arg0)) (m ((c.tc : Thread nD τ).loc main_arg1)))) shapeCasts_S_S1x1
    ∧ r.2.mem ((c.tc : Thread nD τ).loc main_v36)
      = shapeCast S8x1x4096 (ids (m ((c.tc : Thread nD τ).loc main_arg0)) (m ((c.tc : Thread nD τ).loc main_arg1)))
          shapeCasts_S32768_S8x1x4096
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine θ_run_mono (run_hlo _ _ line.2 (by decide) (by decide) (by simp [line])
    (by intro _ h; (repeat (cases h with | head => rfl | tail _ h => ?_)); exact nomatch h) m g) ?_
  intro r h c
  obtain ⟨h32, h33, h34, h35, h36⟩ := line4_results (after line3 (after line2 (after line1 (launchContents m c))))
  obtain ⟨k1, k2, -, -, -, -⟩ := kept (launchContents m c)
  obtain ⟨-, -, k3, k4, -, -⟩ := kept (after line1 (launchContents m c))
  obtain ⟨-, -, -, -, k5, k6⟩ := kept (after line2 (after line1 (launchContents m c)))
  have e0 := (k5.trans k3).trans (line1_v0 (launchContents m c))
  have e16 : after line2 (after line1 (launchContents m c)) (Proc.devRef .tc main_v16)
      = ids (m ((c.tc : Thread nD τ).loc main_arg0)) (m ((c.tc : Thread nD τ).loc main_arg1)) :=
    (line2_v16 _).trans (congrArg argmin (line1_v15 _))
  have e17 : after line3 (after line2 (after line1 (launchContents m c))) (Proc.devRef .tc main_v17)
      = rows (m ((c.tc : Thread nD τ).loc main_arg0)) (m ((c.tc : Thread nD τ).loc main_arg1)) :=
    (line3_v17 _).trans (congrArg₂ take (k4.trans k2) e16)
  have e16' := k6.trans e16
  rw [e0, e17] at h32 h33 h34 h35
  rw [e16'] at h36
  obtain ⟨a0, a1⟩ := kept_args (launchContents m c)
  rw [← after_line] at h32 h33 h34 h35 h36
  exact ⟨(h c main_v32).trans h32, (h c main_v33).trans h33, (h c main_v34).trans h34, (h c main_v35).trans h35,
    (h c main_v36).trans h36, (h c main_arg0).trans a0, (h c main_arg1).trans a1⟩

/-- The reference leaves its arguments as they were and every semaphore counter at zero. -/
theorem frame : Cert.quiescent_ReferenceIdeal := by
  intro m g _
  refine θ_run_mono (run m g) ?_
  intro r h
  exact ⟨fun c => ⟨(h c).2.2.2.2.2.1, (h c).2.2.2.2.2.2⟩, sem_eq_zero_of_no_sems (by decide) r.2⟩

end VQ.Ref

end
-- ==== Proof.RefArg.lean ====
/- The reference's arg-min and row lookup: the arg-min is the first position of the least entry, and the lookup of a row number
   in range is that row. -/
module

public import proofs.«01_k».proof.Proof.RefRun
public import proofs.«01_k».proof.Proof.Chain
public import Idealize.ShloMosaic.Lib.Routing.Ops
public import Idealize.ShloMosaic.Lib.StableHlo.Predicate

@[expose] public section

set_option maxRecDepth 16384

noncomputable section

namespace VQ.Ref

open Idealize.ShloMosaic Idealize.ShloMosaic.TcCoe Idealize.SL.Sem Idealize.ShloMosaic.StableHlo
open Cert.ReferenceIdeal Cert.ReferenceIdeal.Gen

/-! ## The arg-min -/

/-- The entries an arg-min along the second axis of a matrix folds over, in order: those of one row. -/
theorem fiber_row {α β : Type} {n k : ℕ} {t : Shape} (x : (⟨2, ![n, k]⟩ : Shape).Idx → α) (y : (⟨2, ![n, k]⟩ : Shape).Idx → β)
    (h : (⟨2, ![n, k]⟩ : Shape).ReducesTo [1] t) (j : t.Idx) (r : Fin n)
    (hr : (j ⟨0, h.lt_r2_a1_0⟩).val = r.val) :
    Host.argReduceFiber x y h j = (List.finRange k).map fun i => (x (ix2 r i), y (ix2 r i)) := by
  have e : ((List.finRange (⟨2, ![n, k]⟩ : Shape).numel).filter fun q => h.drop ((⟨2, ![n, k]⟩ : Shape).rowMajor.symm q) = j)
      = (List.finRange k).map fun i => (⟨2, ![n, k]⟩ : Shape).rowMajor (ix2 r i) := by
    have hr' : (⟨(j ⟨0, h.lt_r2_a1_0⟩).val, Shape.coordLt (j ⟨0, h.lt_r2_a1_0⟩) h.size_r2_a1_0⟩ : Fin n) = r := Fin.ext hr
    refine List.Pairwise.eq_of_mem_iff (r := (· < ·)) ((List.sortedLT_finRange _).pairwise.filter _) ?_ ?_
    · refine List.pairwise_map.2 ((List.sortedLT_finRange _).pairwise.imp ?_)
      intro a b hab
      rw [Fin.lt_def, Shape.rowMajor_val_two, Shape.rowMajor_val_two]
      exact Nat.add_lt_add_left hab _
    · intro q
      rw [List.mem_filter, List.mem_map]
      simp only [List.mem_finRange, true_and, decide_eq_true_eq]
      rw [h.fiber_r2_a1 j, hr']
      exact exists_congr fun i => ⟨fun e => by rw [e, Equiv.apply_symm_apply], fun e => by rw [← e, Equiv.symm_apply_apply]⟩
  rw [Host.argReduceFiber, e, List.map_map]
  refine List.map_congr_left fun i _ => ?_
  simp only [Function.comp, Equiv.symm_apply_apply]

/-- What the fold holds after the first `n` entries: the least of them and its first position; before any, infinity and zero. -/
def Seen (g : Fin 1024 → EReal) (n : ℕ) (p : EReal × BitVec 32) : Prop :=
  (n = 0 ∧ p = (⊤, 0#32)) ∨ ∃ i : Fin 1024, i.1 < n ∧ p = (g i, BitVec.ofNat 32 i.1)
    ∧ (∀ j : Fin 1024, j.1 < n → g i ≤ g j) ∧ ∀ j : Fin 1024, j.1 < i.1 → g i < g j

/-- One step of the reducer. -/
theorem reducer_step (a b : EReal) (i j : ℕ) (hi : i < 1024) (hj : j < 1024) :
    reducer_argmin_f32_i32 (F := Ideal) (a, BitVec.ofNat 32 i) (b, BitVec.ofNat 32 j)
      = if a < b ∨ (a = b ∧ i < j) then (a, BitVec.ofNat 32 i) else (b, BitVec.ofNat 32 j) := by
  have hs : IntOp.cmpi .slt (BitVec.ofNat 32 i) (BitVec.ofNat 32 j) = BitVec.ofBool (decide (i < j)) := by
    have h := Predicate.slt_iff_toNat (a := BitVec.ofNat 32 i) (b := BitVec.ofNat 32 j)
      (by rw [BitVec.toNat_ofNat]; omega) (by rw [BitVec.toNat_ofNat]; omega)
    rw [BitVec.toNat_ofNat, BitVec.toNat_ofNat, Nat.mod_eq_of_lt (by omega), Nat.mod_eq_of_lt (by omega)] at h
    by_cases hij : i < j
    · rw [h.2 hij]; simp [hij]
    · have := mt h.1 hij
      have h0 : ∀ w : BitVec 1, w ≠ 1#1 → w = 0#1 := by decide
      rw [h0 _ this]; simp [hij]
  have hlt : FloatOps.cmpf (F := Ideal) (φ := .f32) .olt a b = BitVec.ofBool (decide (a < b)) := rfl
  have heq : FloatOps.cmpf (F := Ideal) (φ := .f32) .oeq a b = BitVec.ofBool (decide (a = b)) := rfl
  have hne : FloatOps.cmpf (F := Ideal) (φ := .f32) .une a a = 0#1 := by
    show BitVec.ofBool (decide (a ≠ a)) = _
    simp
  unfold reducer_argmin_f32_i32
  simp only [hlt, heq, hne, hs]
  rcases lt_trichotomy a b with h | h | h
  · simp [h, h.ne, IntOp.ori, IntOp.andi, Scalar.select]
  · subst h
    by_cases hij : i < j <;> simp [hij, IntOp.ori, IntOp.andi, Scalar.select]
  · simp [h.not_gt, h.ne', IntOp.ori, IntOp.andi, Scalar.select]

/-- The fold keeps what `Seen` says. -/
theorem seen_step {g : Fin 1024 → EReal} {p : EReal × BitVec 32} (n : Fin 1024) (h : Seen g n.1 p) :
    Seen g (n.1 + 1) (reducer_argmin_f32_i32 (F := Ideal) p (g n, BitVec.ofNat 32 n.1)) := by
  right
  rcases h with ⟨h0, rfl⟩ | ⟨i, hi, rfl, hle, hlt⟩
  · have e : reducer_argmin_f32_i32 (F := Ideal) (⊤, 0#32) (g n, BitVec.ofNat 32 n.1) = (g n, BitVec.ofNat 32 n.1) := by
      refine (reducer_step ⊤ (g n) 0 n.1 (by omega) n.2).trans (if_neg ?_)
      rintro (h | ⟨-, h⟩)
      · exact not_top_lt h
      · omega
    exact ⟨n, by omega, e, fun j hj => le_of_eq (congrArg g (Fin.ext (by omega))), fun j hj => by omega⟩
  · rw [reducer_step _ _ _ _ i.2 n.2]
    have hcase : ∀ j : Fin 1024, j.1 < n.1 + 1 → j.1 < n.1 ∨ j = n := fun j hj => by
      rcases Nat.lt_succ_iff_lt_or_eq.1 hj with h | h
      · exact Or.inl h
      · exact Or.inr (Fin.ext h)
    by_cases h : g i < g n ∨ (g i = g n ∧ i.1 < n.1)
    · rw [if_pos h]
      have hin : g i ≤ g n := h.elim le_of_lt fun h => le_of_eq h.1
      exact ⟨i, by omega, rfl, fun j hj => (hcase j hj).elim (hle j) fun e => e ▸ hin, hlt⟩
    · rw [if_neg h]
      have hni : g n < g i := by
        rcases lt_trichotomy (g i) (g n) with h1 | h1 | h1
        · exact absurd (Or.inl h1) h
        · exact absurd (Or.inr ⟨h1, hi⟩) h
        · exact h1
      exact ⟨n, by omega, rfl, fun j hj => (hcase j hj).elim (fun hj => le_of_lt (hni.trans_le (hle j hj))) fun e => e ▸ le_rfl,
        fun j hj => hni.trans_le (hle j hj)⟩

/-- The whole fold ends at the first least entry. -/
theorem seen_all (g : Fin 1024 → EReal) (L : List (EReal × BitVec 32)) (p : EReal × BitVec 32)
    (hL : L = (List.finRange 1024).map fun i => (g i, BitVec.ofNat 32 i.1)) (hp : p = (⊤, 0#32)) :
    Seen g 1024 (L.foldl (reducer_argmin_f32_i32 (F := Ideal)) p) := by
  have H : ∀ n, n ≤ 1024 → Seen g n ((L.take n).foldl (reducer_argmin_f32_i32 (F := Ideal)) p) := by
    intro n
    induction n with
    | zero => exact fun _ => Or.inl ⟨rfl, hp⟩
    | succ n ih =>
      intro hn
      have hlen : n < L.length := by rw [hL, List.length_map, List.length_finRange]; exact hn
      have hget : L[n] = (g ⟨n, hn⟩, BitVec.ofNat 32 n) := by
        subst hL
        rw [List.getElem_map, List.getElem_finRange]
        rfl
      rw [List.take_succ_eq_append_getElem hlen, List.foldl_append, hget]
      exact seen_step ⟨n, hn⟩ (ih (by omega))
  have := H 1024 le_rfl
  rwa [List.take_of_length_le (by rw [hL, List.length_map, List.length_finRange])] at this

/-- The fold behind the arg-min, entry by entry of a row. -/
theorem pair_eq (d : FVec Ideal S32768x1024 .f32) (n : Fin 32768) :
    Host.argReduce reducer_argmin_f32_i32 d (iotaInDim S32768x1024 32 1)
    (constant S_ .f32 0x7F800000#32) (constantI S_ 32 0#32) reducesTo_S32768x1024_S32768_d1 h_S_ (ix1 n)
      = ((List.finRange 1024).map fun i => ((d (ix2 n i), iotaInDim S32768x1024 32 1 (ix2 n i)) : EReal × BitVec 32)).foldl
          (reducer_argmin_f32_i32 (F := Ideal))
          ((constant (F := Ideal) S_ .f32 0x7F800000#32) (Shape.Idx.first h_S_), (constantI S_ 32 0#32) (Shape.Idx.first h_S_)) := by
  rw [Ideal.argReduce_eq_reduce2, Host.reduce2_eq_foldl_fiber,
    fiber_row d (iotaInDim S32768x1024 32 1) reducesTo_S32768x1024_S32768_d1 (ix1 n) n rfl]

/-- The arg-min is the second half of the fold's result. -/
theorem argmin_fn (d : FVec Ideal S32768x1024 .f32) : argmin d = fun j => (Host.argReduce reducer_argmin_f32_i32 d (iotaInDim S32768x1024 32 1)
    (constant S_ .f32 0x7F800000#32) (constantI S_ 32 0#32) reducesTo_S32768x1024_S32768_d1 h_S_ j).2 := by
  delta argmin
  exact Eq.refl _

/-- The arg-min of a row is the first position of its least entry. -/
theorem argmin_eq (d : FVec Ideal S32768x1024 .f32) (n : Fin 32768) (k : Fin 1024)
    (hk : IsFirst (fun k => d (ix2 n k)) k) : argmin d (ix1 n) = BitVec.ofNat 32 k.1 := by
  have htop : Ideal.ofBits .f32 0x7F800000#32 = ⊤ := by simp [Ideal.ofBits, Ideal.ieee]
  have hL : ((List.finRange 1024).map fun i => ((d (ix2 n i), iotaInDim S32768x1024 32 1 (ix2 n i)) : EReal × BitVec 32))
      = (List.finRange 1024).map fun i => (d (ix2 n i), BitVec.ofNat 32 i.1) :=
    List.map_congr_left fun i _ => Prod.ext rfl rfl
  have hp : (((constant (F := Ideal) S_ .f32 0x7F800000#32) (Shape.Idx.first h_S_),
      (constantI S_ 32 0#32) (Shape.Idx.first h_S_)) : EReal × BitVec 32) = (⊤, 0#32) := Prod.ext htop rfl
  have h := seen_all (fun k => d (ix2 n k)) _ _ hL hp
  rw [← pair_eq] at h
  rw [argmin_fn]
  rcases h with ⟨h, -⟩ | ⟨i, -, h, hle, hlt⟩
  · omega
  · have e : i = k := IsFirst.unique ⟨fun j => hle j j.2, fun j hj => hlt j hj⟩ hk
    rw [← e]
    exact congrArg Prod.snd h

/-! ## The lookup -/

/-- The lookup of a row number in range is that row. -/
theorem take_eq (e : FVec Ideal S1024x32 .f32) (i : IVec S32768 32) (n : Fin 32768) (d : Fin 32) (k : Fin 1024)
    (hk : i (ix1 n) = BitVec.ofNat 32 k.1) : take e i (ix2 n d) = e (ix2 k d) := by
  have hk' := k.2
  have h1 : rowNo i (ix2 n 0) = BitVec.ofNat 32 k.1 := by
    have hs : ¬ IntOp.cmpi .slt (BitVec.ofNat 32 k.1) 0#32 = 1#1 := by
      rw [Predicate.slt_iff_toNat (by rw [BitVec.toNat_ofNat]; omega) (by simp)]
      simp
    unfold rowNo
    pointwise
    exact (congrArg (fun w => Scalar.select (IntOp.cmpi .slt w 0#32) (IntOp.addi w 1024#32) w) hk).trans (if_neg hs)
  have h2 : rowOk (rowNo i) (ix1 n) = 1#1 := by
    unfold rowOk
    pointwise
    rw [Finset.univ_unique, Finset.fold_singleton]
    rw [show (default : Fin 1) = 0 from rfl, h1,
      (Predicate.sge_iff_toNat (by rw [BitVec.toNat_ofNat]; omega) (by simp)).2 (by simp),
      (Predicate.sle_iff_toNat (by rw [BitVec.toNat_ofNat]; omega) (by simp)).2
        (by rw [BitVec.toNat_ofNat]; simp; omega)]
    rfl
  unfold take
  pointwise
  rw [h2]
  refine (if_pos rfl).trans ?_
  exact Routing.gather_row _ rfl rfl rfl rfl rfl e (rowNo i) n d k h1 (by norm_num)

end VQ.Ref
-- ==== Proof.RefRead.lean ====
/- The reference's distances, results and losses, over real arguments. -/
module

public import proofs.«01_k».proof.Proof.RefArg
public import proofs.«01_k».proof.Proof.Reals
public import Idealize.ShloMosaic.Lib.Pointwise

@[expose] public section

set_option maxRecDepth 16384

noncomputable section

namespace VQ.Ref

open Idealize.ShloMosaic Idealize.ShloMosaic.TcCoe Idealize.SL.Sem Idealize.ShloMosaic.StableHlo
open Cert.ReferenceIdeal Cert.ReferenceIdeal.Gen

/-- The tokens as a matrix, read in the argument. -/
theorem tokens_read (z : FVec Ideal S8x32x64x64 .f32) (b : Fin 8) (s : Fin 4096) (d : Fin 32) :
    shapeCast S32768x32 (tokens z) shapeCasts_S8x64x64x32_S32768x32 (ix2 (flat b s) d)
      = z (ix4 b d ⟨s.1 / 64, by omega⟩ ⟨s.1 % 64, by omega⟩) := by
  pointwise [tokens]
  refine congrArg z ?_
  have h1 : (⟨(flat b s).1 / 4096, by unfold flat; omega⟩ : Fin 8) = b := Fin.ext (by simp only [flat]; omega)
  have h2 : (⟨(flat b s).1 / 64 % 64, by omega⟩ : Fin 64) = ⟨s.1 / 64, by omega⟩ := Fin.ext (by simp only [flat]; omega)
  have h3 : (⟨(flat b s).1 % 64, by omega⟩ : Fin 64) = ⟨s.1 % 64, by omega⟩ := Fin.ext (by simp only [flat]; omega)
  rw [h1, h2, h3]

/-- The reference's distance, written out over the matrix of tokens. -/
theorem dists_read (zl : FVec Ideal S8x64x64x32 .f32) (e : FVec Ideal S1024x32 .f32) (n : Fin 32768) (k : Fin 1024) (Z : Fin 32 → EReal)
    (hZ : ∀ d, shapeCast S32768x32 zl shapeCasts_S8x64x64x32_S32768x32 (ix2 n d) = Z d) :
    dists zl e (ix2 n k) = ((∑ d : Fin 32, Z d * Z d) + ∑ d : Fin 32, e (ix2 k d) * e (ix2 k d))
      - Ideal.ofBits .f32 0x40000000#32 * ∑ d : Fin 32, Z d * e (ix2 k d) := by
  unfold dists
  generalize shapeCast S32768x32 zl shapeCasts_S8x64x64x32_S32768x32 = Y at hZ ⊢
  pointwise
  simp only [hZ]

/-- Over real arguments the reference's distance is the squared distance. -/
theorem dists_gap (z : S8x32x64x64.Idx → ℝ) (e : S1024x32.Idx → ℝ) (b : Fin 8) (k : Fin 1024) (s : Fin 4096) :
    dists (tokens (lift z)) (lift e) (ix2 (flat b s) k) = (gap (tok z b s) (fun d => e (ix2 k d)) : EReal) := by
  rw [← gap_reference]
  refine (dists_read (tokens (lift z)) (lift e) (flat b s) k (fun d => (tok z b s d : EReal)) fun d => tokens_read (lift z) b s d).trans ?_
  rw [word_two]
  rfl

/-- A quantized token over real arguments: the row looked up. -/
theorem quant_read (z : S8x32x64x64.Idx → ℝ) (q : FVec Ideal S32768x32 .f32) (b : Fin 8) (d : Fin 32) (s : Fin 4096) (r : ℝ)
    (hq : q (ix2 (flat b s) d) = (r : EReal)) : quant (tokens (lift z)) q (ix3 b d s) = (r : EReal) := by
  unfold quant
  pointwise [tokens]
  have h : (⟨b.1 * 4096 + s.1 / 64 * 64 + s.1 % 64, by omega⟩ : Fin 32768) = flat b s := Fin.ext (by simp only [flat]; omega)
  rw [h, hq]
  exact add_sub_back _ r

/-- The positions in the layout of the result. -/
theorem ids_read (i : IVec S32768 32) (b : Fin 8) (s : Fin 4096) :
    shapeCast S8x1x4096 i shapeCasts_S32768_S8x1x4096 (ix3 b 0 s) = i (ix1 (flat b s)) := by
  pointwise
  rfl

/-- The mean over real arguments: the sum of all squared distances by their number. -/
theorem mse_read (z : S8x32x64x64.Idx → ℝ) (q : FVec Ideal S32768x32 .f32) (r : Fin 8 → Fin 4096 → Fin 32 → ℝ)
    (hq : ∀ b s d, q (ix2 (flat b s) d) = (r b s d : EReal)) :
    mse (tokens (lift z)) q ix0 = (∑ b, ∑ s, (gap (tok z b s) (r b s) : EReal)) * Ideal.ofBits .f32 0x35800000#32 := by
  have H : ∀ D : FVec Ideal S8x64x64x32 .f32, (∀ b s, ∑ d : Fin 32, shapeCast S32768x32 D shapeCasts_S8x64x64x32_S32768x32 (ix2 (flat b s) d)
      = (gap (tok z b s) (r b s) : EReal)) → Ideal.hostReduceAdd reducesTo_S8x64x64x32_S_d0_1_2_3 D 0 ix0
        = ∑ b, ∑ s, (gap (tok z b s) (r b s) : EReal) := by
    intro D hD
    rw [Ideal.hostReduceAdd_total _ (fun b => b.elim0), zero_add,
      ← Equiv.sum_comp (Shape.reshapeEquiv shapeCasts_S8x64x64x32_S32768x32) D]
    refine (sum_idx2 (shapeCast S32768x32 D shapeCasts_S8x64x64x32_S32768x32)).trans ?_
    refine (Fin.sum_univ_tiles 8 4096 rfl _).trans ?_
    exact Finset.sum_congr rfl fun b _ => Finset.sum_congr rfl fun s _ => hD b s
  unfold mse
  pointwise
  rw [H, word_count, word_inv_count]
  · exact Ideal.div_coe (by norm_num) _
  · intro b s
    rw [← gap_squares]
    refine Finset.sum_congr rfl fun d _ => ?_
    have ht : shapeCast S32768x32 (tokens (lift z)) shapeCasts_S8x64x64x32_S32768x32 (ix2 (flat b s) d) = (tok z b s d : EReal) :=
      tokens_read (lift z) b s d
    have hd : ∀ (Y : FVec Ideal S8x64x64x32 .f32) (n : Fin 32768),
        shapeCast S32768x32 (mulf (subf (shapeCast S8x64x64x32 q shapeCasts_S32768x32_S8x64x64x32) Y)
          (subf (shapeCast S8x64x64x32 q shapeCasts_S32768x32_S8x64x64x32) Y)) shapeCasts_S8x64x64x32_S32768x32 (ix2 n d)
        = (q (ix2 n d) - shapeCast S32768x32 Y shapeCasts_S8x64x64x32_S32768x32 (ix2 n d))
          * (q (ix2 n d) - shapeCast S32768x32 Y shapeCasts_S8x64x64x32_S32768x32 (ix2 n d)) := by
      intro Y n
      have hc := congrFun (shapeCast_shapeCast q shapeCasts_S32768x32_S8x64x64x32 shapeCasts_S8x64x64x32_S32768x32) (ix2 n d)
      rw [← hc]
      rfl
    rw [hd, ht, hq]

end VQ.Ref
-- ==== Proof.Equal.lean ====
/- Over real arguments the reference's five results are the kernel's five arrays. -/
module

public import proofs.«01_k».proof.Proof.KerRead
public import proofs.«01_k».proof.Proof.RefRead

@[expose] public section

set_option maxRecDepth 16384

noncomputable section

namespace VQ.Ref

open Idealize.ShloMosaic Idealize.ShloMosaic.TcCoe Idealize.SL.Sem Idealize.ShloMosaic.StableHlo
open Cert.ReferenceIdeal Cert.ReferenceIdeal.Gen

variable (z : S8x32x64x64.Idx → ℝ) (e : S1024x32.Idx → ℝ)

/-- The position the kernel finds for token `s` of batch `b`. -/
abbrev at' (b : Fin 8) (s : Fin 4096) : Fin 1024 := pos (batch (lift z) b) (lift e) s

/-- Both programs find the same position for every token. -/
theorem ids_eq (b : Fin 8) (s : Fin 4096) : ids (lift z) (lift e) (ix1 (flat b s)) = BitVec.ofNat 32 (at' z e b s).1 := by
  refine argmin_eq _ (flat b s) _ ?_
  rw [show (fun k => dists (tokens (lift z)) (lift e) (ix2 (flat b s) k)) = fun k => dst (batch (lift z) b) (lift e) k s from
    funext fun k => (dists_gap z e b k s).trans (dst_gap z e b k s).symm]
  exact pos_isFirst _ _ s

/-- The rows the reference looks up. -/
theorem rows_eq (b : Fin 8) (s : Fin 4096) (d : Fin 32) :
    rows (lift z) (lift e) (ix2 (flat b s) d) = (e (ix2 (at' z e b s) d) : EReal) :=
  take_eq (lift e) _ (flat b s) d _ (ids_eq z e b s)

/-- The quantized tokens agree. -/
theorem quant_eq : quant (tokens (lift z)) (rows (lift z) (lift e)) = rowsK (lift z) (lift e) := by
  funext j
  rw [eq_ix3 j]
  exact quant_read z _ (j 0) (j 1) (j 2) _ (rows_eq z e (j 0) (j 2) (j 1))

/-- The positions agree. -/
theorem numbers_eq :
    shapeCast S8x1x4096 (ids (lift z) (lift e)) shapeCasts_S32768_S8x1x4096 = idsK (lift z) (lift e) := by
  funext j
  rw [eq_ix3 j, show j 1 = (0 : Fin 1) from Subsingleton.elim (α := Fin 1) _ _]
  exact (ids_read _ (j 0) (j 2)).trans (ids_eq z e (j 0) (j 2))

/-- The mean of the reference is the kernel's. -/
theorem mse_eq : mse (tokens (lift z)) (rows (lift z) (lift e)) ix0
    = Cert.KernelIdeal.Gen.k0_pay2 (F := Ideal) (totalK (lift z) (lift e)) := by
  rw [pay2_read, total_gap]
  exact mse_read z _ (fun b s d => e (ix2 (at' z e b s) d)) (rows_eq z e)

/-- The codebook losses agree. -/
theorem codebook_eq : shapeCast S1x1 (mse (tokens (lift z)) (rows (lift z) (lift e))) shapeCasts_S_S1x1
    = fun _ => Cert.KernelIdeal.Gen.k0_pay2 (F := Ideal) (totalK (lift z) (lift e)) := by
  funext j
  pointwise
  exact mse_eq z e

/-- The commitment losses agree. -/
theorem commitment_eq : shapeCast S1x1 (quarter (mse (tokens (lift z)) (rows (lift z) (lift e)))) shapeCasts_S_S1x1
    = fun _ => Cert.KernelIdeal.Gen.k0_pay3 (F := Ideal) (totalK (lift z) (lift e)) := by
  funext j
  pointwise [quarter]
  rw [mse_eq, pay3_read]

/-- The total losses agree. -/
theorem loss_eq : shapeCast S1x1 (addf (quarter (mse (tokens (lift z)) (rows (lift z) (lift e))))
      (mse (tokens (lift z)) (rows (lift z) (lift e)))) shapeCasts_S_S1x1
    = fun _ => Cert.KernelIdeal.Gen.k0_pay4 (F := Ideal) (totalK (lift z) (lift e)) := by
  funext j
  pointwise [quarter]
  rw [mse_eq, pay4_read]

end VQ.Ref
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Equal
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The side conditions of the precondition's operations. -/
theorem facts : Cert.Pre_finite.Facts := ⟨by decide, by decide⟩

/-- An extended real of absolute value below infinity is a real number. -/
theorem real_of_abs {x : EReal} (h : max x (-x) < ⊤) : ∃ r : ℝ, (r : EReal) = x := by
  induction x using EReal.rec with
  | bot => simp at h
  | top => simp at h
  | coe r => exact ⟨r, rfl⟩

/-- An array whose absolute values are all below infinity is an array of real numbers. -/
theorem exists_lift {s : Shape} (x : FVec Ideal s .f32) (hb : (⟨0, ![]⟩ : Shape).BroadcastsInDim s ![])
    (h : cmpf .olt (Host.absf x) (broadcastInDim s ![] hb (constant (F := Ideal) ⟨0, ![]⟩ .f32 0x7F800000#32)) = fun _ => 1#1) :
    ∃ r : s.Idx → ℝ, x = VQ.lift r := by
  have htop : Ideal.ofBits .f32 0x7F800000#32 = ⊤ := by simp [Ideal.ofBits, Ideal.ieee]
  have H : ∀ i, ∃ r : ℝ, (r : EReal) = x i := by
    intro i
    have hi := congrFun h i
    have hc : BitVec.ofBool (decide (max (x i) (-x i) < Ideal.ofBits .f32 0x7F800000#32)) = 1#1 := hi
    rw [htop] at hc
    refine real_of_abs ?_
    by_contra hn
    rw [decide_eq_false hn] at hc
    exact absurd hc (by decide)
  choose r hr using H
  exact ⟨r, funext fun i => (hr i).symm⟩

/-- Over finite arguments the kernel and the reference leave the same five results. -/
theorem algebraic : Cert.algebraic_KernelIdeal_ReferenceIdeal_pre_finite (hPre_finite := facts) := by
  pair_intro
  · run_from Cert.KernelIdeal.Value.run_blocks m g
  · have hr : ∀ c : Dev Cert.KernelIdeal.nD, ∃ (z : Cert.KernelIdeal.S8x32x64x64.Idx → ℝ) (e : Cert.KernelIdeal.S1024x32.Idx → ℝ),
        VQ.argZ m c = VQ.lift z ∧ VQ.argE m c = VQ.lift e := by
      intro c
      obtain ⟨h0, h1⟩ := hpre c
      obtain ⟨z, hz⟩ := exists_lift (VQ.argZ m c) facts.bcast_S_S8x32x64x64 h0
      obtain ⟨e, he⟩ := exists_lift (VQ.argE m c) facts.bcast_S_S1024x32 h1
      exact ⟨z, e, hz, he⟩
    refine θ_run_mono (VQ.Ref.run m' g') ?_
    intro r h c
    obtain ⟨h32, h33, h34, h35, h36, ha0, ha1⟩ := h c
    obtain ⟨a0, a1⟩ := hagree c
    obtain ⟨z, e, hz, he⟩ := hr c
    rw [a0.trans hz, a1.trans he] at h32 h33 h34 h35 h36
    have k2 := VQ.final2 m c
    have k3 := VQ.final3 m c
    have k4 := VQ.final4 m c
    have k5 := VQ.final5 m c
    have k6 := VQ.final6 m c
    rw [hz, he] at k2 k3 k4 k5 k6
    exact ⟨h32.trans ((VQ.Ref.quant_eq z e).trans k2.symm), h33.trans ((VQ.Ref.loss_eq z e).trans k4.symm),
      h34.trans ((VQ.Ref.commitment_eq z e).trans k5.symm), h35.trans ((VQ.Ref.codebook_eq z e).trans k6.symm),
      h36.trans ((VQ.Ref.numbers_eq z e).trans k3.symm), ha0, ha1⟩

/-- Everything claimed. -/
theorem claim : Cert.Claim :=
  ⟨Cert.Kernel.Gen.facts, Cert.KernelIdeal.Gen.facts, Cert.ReferenceIdeal.Gen.facts, facts,
    fun m ρ _ => Cert.Kernel.Gen.frame m ρ, fun m ρ _ => Cert.KernelIdeal.Gen.frame m ρ,
    fun m ρ _ => Cert.KernelIdeal.Gen.frame m ρ, VQ.Ref.frame, fun m ρ _ => VQ.Ref.frame m ρ trivial, trivial, algebraic⟩

end Cert.Proof

end
